-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gating [hPre_finite_gating : Cert.Pre_finite_gating.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gating.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_gating.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_gating.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gating [hPre_finite_gating : Cert.Pre_finite_gating.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gating.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_gating.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_gating.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_gating [hKernelIdeal : Cert.KernelIdeal.Facts] [hPre_finite_gating : Cert.Pre_finite_gating.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gating m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_gating [hReferenceIdeal : Cert.ReferenceIdeal.Facts] [hPre_finite_gating : Cert.Pre_finite_gating.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gating m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_gating [hKernelIdeal : Cert.KernelIdeal.Facts] [hReferenceIdeal : Cert.ReferenceIdeal.Facts] [hPre_finite_gating : Cert.Pre_finite_gating.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gating m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_gating : Cert.Pre_finite_gating.Facts),
    quiescent_Kernel (hKernel := hKernel)
    ∧ quiescent_KernelIdeal (hKernelIdeal := hKernelIdeal)
    ∧ quiescent_KernelIdeal_pre_finite_gating (hKernelIdeal := hKernelIdeal) (hPre_finite_gating := hPre_finite_gating)
    ∧ quiescent_ReferenceIdeal (hReferenceIdeal := hReferenceIdeal)
    ∧ quiescent_ReferenceIdeal_pre_finite_gating (hReferenceIdeal := hReferenceIdeal) (hPre_finite_gating := hPre_finite_gating)
    ∧ preserves_Kernel_KernelIdeal
    ∧ algebraic_KernelIdeal_ReferenceIdeal_pre_finite_gating (hKernelIdeal := hKernelIdeal) (hReferenceIdeal := hReferenceIdeal) (hPre_finite_gating := hPre_finite_gating)
-- ==== Pre_finite_gating.lean ====
abbrev S2x768x32x32 : Shape := ⟨4, ![2, 768, 32, 32]⟩
abbrev S768x1536 : Shape := ⟨2, ![768, 1536]⟩
abbrev S768 : Shape := ⟨1, ![768]⟩
abbrev S48x768 : Shape := ⟨2, ![48, 768]⟩
abbrev S48 : Shape := ⟨1, ![48]⟩
abbrev S768x48 : Shape := ⟨2, ![768, 48]⟩
abbrev S3x768x4 : Shape := ⟨3, ![3, 768, 4]⟩
abbrev S4x384x768 : Shape := ⟨3, ![4, 384, 768]⟩
abbrev S4x384 : Shape := ⟨2, ![4, 384]⟩
abbrev S4x768x384 : Shape := ⟨3, ![4, 768, 384]⟩
abbrev S4x768 : Shape := ⟨2, ![4, 768]⟩
abbrev S_ : Shape := ⟨0, ![]⟩

class Facts : Prop where
  bcast_S_S768 : S_.BroadcastsInDim S768 (![] : Fin 0 → Fin S768.rank)
  bcast_S_S3x768x4 : S_.BroadcastsInDim S3x768x4 (![] : Fin 0 → Fin S3x768x4.rank)

variable [Facts]

def fn {F : FTy → Type} [FloatOps F] (main_arg0 : FVec F S2x768x32x32 .f32) (main_arg1 : FVec F S2x768x32x32 .f32) (main_arg2 : FVec F S768x1536 .f32) (main_arg3 : FVec F S768 .f32) (main_arg4 : FVec F S768 .f32) (main_arg5 : FVec F S48x768 .f32) (main_arg6 : FVec F S48 .f32) (main_arg7 : FVec F S768x48 .f32) (main_arg8 : FVec F S768 .f32) (main_arg9 : FVec F S3x768x4 .f32) (main_arg10 : FVec F S4x384x768 .f32) (main_arg11 : FVec F S4x384 .f32) (main_arg12 : FVec F S4x768x384 .f32) (main_arg13 : FVec F S4x768 .f32) (main_arg14 : IVec S_ 32) : IVec S768 1 × IVec S768 1 × IVec S3x768x4 1 :=
  let main_v0 : FVec F S768 .f32 := Host.absf main_arg3
  let main_cst : FVec F S_ .f32 := constant S_ .f32 0x7F800000#32
  let main_v1 : FVec F S768 .f32 := broadcastInDim S768 ![] bcast_S_S768 main_cst
  let main_v2 : IVec S768 1 := cmpf .olt main_v0 main_v1
  let main_v3 : FVec F S768 .f32 := Host.absf main_arg4
  let main_cst_0 : FVec F S_ .f32 := constant S_ .f32 0x7F800000#32
  let main_v4 : FVec F S768 .f32 := broadcastInDim S768 ![] bcast_S_S768 main_cst_0
  let main_v5 : IVec S768 1 := cmpf .olt main_v3 main_v4
  let main_v6 : FVec F S3x768x4 .f32 := Host.absf main_arg9
  let main_cst_1 : FVec F S_ .f32 := constant S_ .f32 0x7F800000#32
  let main_v7 : FVec F S3x768x4 .f32 := broadcastInDim S3x768x4 ![] bcast_S_S3x768x4 main_cst_1
  let main_v8 : IVec S3x768x4 1 := cmpf .olt main_v6 main_v7
  (main_v2, main_v5, main_v8)
-- ==== Kernel.lean ====
abbrev S2x768x32x32 : Shape := ⟨4, ![2, 768, 32, 32]⟩
abbrev S768x1536 : Shape := ⟨2, ![768, 1536]⟩
abbrev S768 : Shape := ⟨1, ![768]⟩
abbrev S48x768 : Shape := ⟨2, ![48, 768]⟩
abbrev S48 : Shape := ⟨1, ![48]⟩
abbrev S768x48 : Shape := ⟨2, ![768, 48]⟩
abbrev S3x768x4 : Shape := ⟨3, ![3, 768, 4]⟩
abbrev S4x384x768 : Shape := ⟨3, ![4, 384, 768]⟩
abbrev S4x384 : Shape := ⟨2, ![4, 384]⟩
abbrev S4x768x384 : Shape := ⟨3, ![4, 768, 384]⟩
abbrev S4x768 : Shape := ⟨2, ![4, 768]⟩
abbrev S_ : Shape := ⟨0, ![]⟩
abbrev S2x32x32x768 : Shape := ⟨4, ![2, 32, 32, 768]⟩
abbrev S2x1024x768 : Shape := ⟨3, ![2, 1024, 768]⟩
abbrev S1x768x4 : Shape := ⟨3, ![1, 768, 4]⟩
abbrev S768x4 : Shape := ⟨2, ![768, 4]⟩
abbrev S1x768 : Shape := ⟨2, ![1, 768]⟩
abbrev S1x48 : Shape := ⟨2, ![1, 48]⟩
abbrev S4x1x384 : Shape := ⟨3, ![4, 1, 384]⟩
abbrev S4x1x768 : Shape := ⟨3, ![4, 1, 768]⟩
abbrev S1x1 : Shape := ⟨2, ![1, 1]⟩
abbrev S1x1024x768 : Shape := ⟨3, ![1, 1024, 768]⟩
abbrev S1x384x768 : Shape := ⟨3, ![1, 384, 768]⟩
abbrev S1x1x384 : Shape := ⟨3, ![1, 1, 384]⟩
abbrev S1x768x384 : Shape := ⟨3, ![1, 768, 384]⟩
abbrev S1x1x768 : Shape := ⟨3, ![1, 1, 768]⟩
abbrev S1024x768 : Shape := ⟨2, ![1024, 768]⟩
abbrev S1024x4 : Shape := ⟨2, ![1024, 4]⟩
abbrev S8x128 : Shape := ⟨2, ![8, 128]⟩
abbrev S768x768 : Shape := ⟨2, ![768, 768]⟩
abbrev S1024 : Shape := ⟨1, ![1024]⟩
abbrev S1024x1 : Shape := ⟨2, ![1024, 1]⟩
abbrev S1x4 : Shape := ⟨2, ![1, 4]⟩
abbrev S4 : Shape := ⟨1, ![4]⟩
abbrev S384x768 : Shape := ⟨2, ![384, 768]⟩
abbrev S1024x384 : Shape := ⟨2, ![1024, 384]⟩
abbrev S1x384 : Shape := ⟨2, ![1, 384]⟩
abbrev S768x384 : Shape := ⟨2, ![768, 384]⟩
abbrev S1x1x4 : Shape := ⟨3, ![1, 1, 4]⟩
abbrev S1 : Shape := ⟨1, ![1]⟩
abbrev S1x1x1 : Shape := ⟨3, ![1, 1, 1]⟩

abbrev nBuf : Space → Nat
  | .hbm => 39
  | .vmem => 27
  | .smem => 0
  | _ => 0

abbrev bufTy : (tb : Table) → Fin (tcTables nBuf tb) → BufTy
  | .hbm, ⟨0, _⟩ => ⟨S2x768x32x32, .f32⟩
  | .hbm, ⟨1, _⟩ => ⟨S2x768x32x32, .f32⟩
  | .hbm, ⟨2, _⟩ => ⟨S768x1536, .f32⟩
  | .hbm, ⟨3, _⟩ => ⟨S768, .f32⟩
  | .hbm, ⟨4, _⟩ => ⟨S768, .f32⟩
  | .hbm, ⟨5, _⟩ => ⟨S48x768, .f32⟩
  | .hbm, ⟨6, _⟩ => ⟨S48, .f32⟩
  | .hbm, ⟨7, _⟩ => ⟨S768x48, .f32⟩
  | .hbm, ⟨8, _⟩ => ⟨S768, .f32⟩
  | .hbm, ⟨9, _⟩ => ⟨S3x768x4, .f32⟩
  | .hbm, ⟨10, _⟩ => ⟨S4x384x768, .f32⟩
  | .hbm, ⟨11, _⟩ => ⟨S4x384, .f32⟩
  | .hbm, ⟨12, _⟩ => ⟨S4x768x384, .f32⟩
  | .hbm, ⟨13, _⟩ => ⟨S4x768, .f32⟩
  | .hbm, ⟨14, _⟩ => ⟨S_, .i32⟩
  | .hbm, ⟨15, _⟩ => ⟨S2x32x32x768, .f32⟩
  | .hbm, ⟨16, _⟩ => ⟨S2x1024x768, .f32⟩
  | .hbm, ⟨17, _⟩ => ⟨S2x32x32x768, .f32⟩
  | .hbm, ⟨18, _⟩ => ⟨S2x1024x768, .f32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S1x768x4, .f32⟩
  | .hbm, ⟨27, _⟩ => ⟨S768x4, .f32⟩
  | .hbm, ⟨28, _⟩ => ⟨S1x768, .f32⟩
  | .hbm, ⟨29, _⟩ => ⟨S1x768, .f32⟩
  | .hbm, ⟨30, _⟩ => ⟨S1x48, .f32⟩
  | .hbm, ⟨31, _⟩ => ⟨S1x768, .f32⟩
  | .hbm, ⟨32, _⟩ => ⟨S4x1x384, .f32⟩
  | .hbm, ⟨33, _⟩ => ⟨S4x1x768, .f32⟩
  | .hbm, ⟨34, _⟩ => ⟨S2x1024x768, .f32⟩
  | .hbm, ⟨35, _⟩ => ⟨S1x1, .f32⟩
  | .hbm, ⟨36, _⟩ => ⟨S2x32x32x768, .f32⟩
  | .hbm, ⟨37, _⟩ => ⟨S2x768x32x32, .f32⟩
  | .hbm, ⟨38, _⟩ => ⟨S_, .f32⟩
  | .local _ .vmem, ⟨0, _⟩ => ⟨S1x1024x768, .f32⟩
  | .local _ .vmem, ⟨1, _⟩ => ⟨S1x1024x768, .f32⟩
  | .local _ .vmem, ⟨2, _⟩ => ⟨S1x1024x768, .f32⟩
  | .local _ .vmem, ⟨3, _⟩ => ⟨S1x1024x768, .f32⟩
  | .local _ .vmem, ⟨4, _⟩ => ⟨S768x1536, .f32⟩
  | .local _ .vmem, ⟨5, _⟩ => ⟨S1x768, .f32⟩
  | .local _ .vmem, ⟨6, _⟩ => ⟨S1x768, .f32⟩
  | .local _ .vmem, ⟨7, _⟩ => ⟨S768x4, .f32⟩
  | .local _ .vmem, ⟨8, _⟩ => ⟨S48x768, .f32⟩
  | .local _ .vmem, ⟨9, _⟩ => ⟨S1x48, .f32⟩
  | .local _ .vmem, ⟨10, _⟩ => ⟨S768x48, .f32⟩
  | .local _ .vmem, ⟨11, _⟩ => ⟨S1x768, .f32⟩
  | .local _ .vmem, ⟨12, _⟩ => ⟨S1x384x768, .f32⟩
  | .local _ .vmem, ⟨13, _⟩ => ⟨S1x384x768, .f32⟩
  | .local _ .vmem, ⟨14, _⟩ => ⟨S1x1x384, .f32⟩
  | .local _ .vmem, ⟨15, _⟩ => ⟨S1x1x384, .f32⟩
  | .local _ .vmem, ⟨16, _⟩ => ⟨S1x768x384, .f32⟩
  | .local _ .vmem, ⟨17, _⟩ => ⟨S1x768x384, .f32⟩
  | .local _ .vmem, ⟨18, _⟩ => ⟨S1x1x768, .f32⟩
  | .local _ .vmem, ⟨19, _⟩ => ⟨S1x1x768, .f32⟩
  | .local _ .vmem, ⟨20, _⟩ => ⟨S1x1024x768, .f32⟩
  | .local _ .vmem, ⟨21, _⟩ => ⟨S1x1024x768, .f32⟩
  | .local _ .vmem, ⟨22, _⟩ => ⟨S1x1, .f32⟩
  | .local _ .vmem, ⟨23, _⟩ => ⟨S1024x768, .bf16⟩
  | .local _ .vmem, ⟨24, _⟩ => ⟨S1024x4, .f32⟩
  | .local _ .vmem, ⟨25, _⟩ => ⟨S1024x768, .f32⟩
  | .local _ .vmem, ⟨26, _⟩ => ⟨S8x128, .f32⟩
  | _, _ => ⟨S2x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_c_0 : Ref sig .tc := ⟨.hbm, 21, rfl⟩
abbrev main_call0_v1 : Ref sig .tc := ⟨.hbm, 22, rfl⟩
abbrev main_call0_v2 : Ref sig .tc := ⟨.hbm, 23, rfl⟩
abbrev main_call0_c_1 : Ref sig .tc := ⟨.hbm, 24, rfl⟩
abbrev main_call0_c_2 : Ref sig .tc := ⟨.hbm, 25, rfl⟩
abbrev main_call0_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22

abbrev nD : Nat := 1
abbrev τ : Topo := Topo.v7x

variable {F : FTy → Type} [FloatOps F]

abbrev grid0 : Pipeline.Grid := ⟨2, ![2, 5], ![false, false]⟩

def k0_cond7 (i : grid0.Coords) : BitVec 1 :=
  let arg1 : BitVec 32 := BitVec.ofNat 32 (i 1).val
  let c4_i32 : BitVec 32 := 4#32
  let v11 : BitVec 1 := Scalar.cmpi .eq arg1 c4_i32
  let v12 : BitVec 32 := Scalar.extui v11
  let c0_i32_6 : BitVec 32 := 0#32
  let v13 : BitVec 1 := Scalar.cmpi .ne v12 c0_i32_6
  v13

def k0_cond8 (i : grid0.Coords) : BitVec 1 :=
  let arg0 : BitVec 32 := BitVec.ofNat 32 (i 0).val
  let c1_i32 : BitVec 32 := 1#32
  let v14 : BitVec 1 := Scalar.cmpi .eq arg0 c1_i32
  let arg1 : BitVec 32 := BitVec.ofNat 32 (i 1).val
  let c4_i32_7 : BitVec 32 := 4#32
  let v15 : BitVec 1 := Scalar.cmpi .eq arg1 c4_i32_7
  let v16 : BitVec 1 := Scalar.andi v14 v15
  let v17 : BitVec 32 := Scalar.extui v16
  let c0_i32_8 : BitVec 32 := 0#32
  let v18 : BitVec 1 := Scalar.cmpi .ne v17 c0_i32_8
  v18

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_13 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S768x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S768x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S48x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S768x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x384x768 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x1x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x768x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x1024x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== ReferenceIdeal.lean ====
abbrev S2x768x32x32 : Shape := ⟨4, ![2, 768, 32, 32]⟩
abbrev S768x1536 : Shape := ⟨2, ![768, 1536]⟩
abbrev S768 : Shape := ⟨1, ![768]⟩
abbrev S48x768 : Shape := ⟨2, ![48, 768]⟩
abbrev S48 : Shape := ⟨1, ![48]⟩
abbrev S768x48 : Shape := ⟨2, ![768, 48]⟩
abbrev S3x768x4 : Shape := ⟨3, ![3, 768, 4]⟩
abbrev S4x384x768 : Shape := ⟨3, ![4, 384, 768]⟩
abbrev S4x384 : Shape := ⟨2, ![4, 384]⟩
abbrev S4x768x384 : Shape := ⟨3, ![4, 768, 384]⟩
abbrev S4x768 : Shape := ⟨2, ![4, 768]⟩
abbrev S_ : Shape := ⟨0, ![]⟩
abbrev S2x768 : Shape := ⟨2, ![2, 768]⟩
abbrev S2x48 : Shape := ⟨2, ![2, 48]⟩
abbrev S1x48 : Shape := ⟨2, ![1, 48]⟩
abbrev S1x768 : Shape := ⟨2, ![1, 768]⟩
abbrev S2x768x1x1 : Shape := ⟨4, ![2, 768, 1, 1]⟩
abbrev S2x768x1024 : Shape := ⟨3, ![2, 768, 1024]⟩
abbrev S2x1024x768 : Shape := ⟨3, ![2, 1024, 768]⟩
abbrev S2x1024x1536 : Shape := ⟨3, ![2, 1024, 1536]⟩
abbrev S1536x768 : Shape := ⟨2, ![1536, 768]⟩
abbrev S2x1024 : Shape := ⟨2, ![2, 1024]⟩
abbrev S2x1024x1 : Shape := ⟨3, ![2, 1024, 1]⟩
abbrev S1x1x768 : Shape := ⟨3, ![1, 1, 768]⟩
abbrev S2048x768 : Shape := ⟨2, ![2048, 768]⟩
abbrev S1x768x4 : Shape := ⟨3, ![1, 768, 4]⟩
abbrev S768x4 : Shape := ⟨2, ![768, 4]⟩
abbrev S2048x4 : Shape := ⟨2, ![2048, 4]⟩
abbrev S2048x2 : Shape := ⟨2, ![2048, 2]⟩
abbrev S2048 : Shape := ⟨1, ![2048]⟩
abbrev S2048x1 : Shape := ⟨2, ![2048, 1]⟩
abbrev S2048x2x1 : Shape := ⟨3, ![2048, 2, 1]⟩
abbrev S2048x2x2 : Shape := ⟨3, ![2048, 2, 2]⟩
abbrev S4 : Shape := ⟨1, ![4]⟩
abbrev S1 : Shape := ⟨1, ![1]⟩
abbrev S2048x4x384 : Shape := ⟨3, ![2048, 4, 384]⟩
abbrev S1x4x384 : Shape := ⟨3, ![1, 4, 384]⟩
abbrev S4x768x2048 : Shape := ⟨3, ![4, 768, 2048]⟩
abbrev S2048x4x768 : Shape := ⟨3, ![2048, 4, 768]⟩
abbrev S1x4x768 : Shape := ⟨3, ![1, 4, 768]⟩
abbrev S2048x4x1 : Shape := ⟨3, ![2048, 4, 1]⟩

abbrev nBuf : Space → Nat
  | .hbm => 259
  | .vmem => 0
  | .smem => 0
  | _ => 0

abbrev hbmTy0_0 (i : Nat) : BufTy := match i % 128 with
  | 0 => ⟨S2x768x32x32, .f32⟩
  | 1 => ⟨S2x768x32x32, .f32⟩
  | 2 => ⟨S768x1536, .f32⟩
  | 3 => ⟨S768, .f32⟩
  | 4 => ⟨S768, .f32⟩
  | 5 => ⟨S48x768, .f32⟩
  | 6 => ⟨S48, .f32⟩
  | 7 => ⟨S768x48, .f32⟩
  | 8 => ⟨S768, .f32⟩
  | 9 => ⟨S3x768x4, .f32⟩
  | 10 => ⟨S4x384x768, .f32⟩
  | 11 => ⟨S4x384, .f32⟩
  | 12 => ⟨S4x768x384, .f32⟩
  | 13 => ⟨S4x768, .f32⟩
  | 14 => ⟨S_, .i32⟩
  | 15 => ⟨S2x768x32x32, .f32⟩
  | 16 => ⟨S_, .f32⟩
  | 17 => ⟨S2x768, .f32⟩
  | 18 => ⟨S_, .f32⟩
  | 19 => ⟨S2x768, .f32⟩
  | 20 => ⟨S2x768, .f32⟩
  | 21 => ⟨S768x48, .f32⟩
  | 22 => ⟨S2x48, .f32⟩
  | 23 => ⟨S1x48, .f32⟩
  | 24 => ⟨S2x48, .f32⟩
  | 25 => ⟨S2x48, .f32⟩
  | 26 => ⟨S_, .f32⟩
  | 27 => ⟨S2x48, .f32⟩
  | 28 => ⟨S2x48, .f32⟩
  | 29 => ⟨S48x768, .f32⟩
  | 30 => ⟨S2x768, .f32⟩
  | 31 => ⟨S1x768, .f32⟩
  | 32 => ⟨S2x768, .f32⟩
  | 33 => ⟨S2x768, .f32⟩
  | 34 => ⟨S2x768, .f32⟩
  | 35 => ⟨S2x768, .f32⟩
  | 36 => ⟨S_, .f32⟩
  | 37 => ⟨S2x768, .f32⟩
  | 38 => ⟨S2x768, .f32⟩
  | 39 => ⟨S_, .f32⟩
  | 40 => ⟨S2x768, .f32⟩
  | 41 => ⟨S2x768, .f32⟩
  | 42 => ⟨S2x768x1x1, .f32⟩
  | 43 => ⟨S2x768x32x32, .f32⟩
  | 44 => ⟨S2x768x32x32, .f32⟩
  | 45 => ⟨S_, .f32⟩
  | 46 => ⟨S2x768x1x1, .f32⟩
  | 47 => ⟨S2x768x1x1, .f32⟩
  | 48 => ⟨S2x768x32x32, .f32⟩
  | 49 => ⟨S2x768x32x32, .f32⟩
  | 50 => ⟨S2x768x32x32, .f32⟩
  | 51 => ⟨S2x768x1024, .f32⟩
  | 52 => ⟨S2x1024x768, .f32⟩
  | 53 => ⟨S2x768x1024, .f32⟩
  | 54 => ⟨S2x1024x768, .f32⟩
  | 55 => ⟨S2x1024x1536, .f32⟩
  | 56 => ⟨S1536x768, .f32⟩
  | 57 => ⟨S2x1024x768, .f32⟩
  | 58 => ⟨S_, .f32⟩
  | 59 => ⟨S2x1024x768, .f32⟩
  | 60 => ⟨S2x1024x768, .f32⟩
  | 61 => ⟨S_, .f32⟩
  | 62 => ⟨S2x1024, .f32⟩
  | 63 => ⟨S2x1024x1, .f32⟩
  | 64 => ⟨S_, .f32⟩
  | 65 => ⟨S2x1024x1, .f32⟩
  | 66 => ⟨S2x1024x1, .f32⟩
  | 67 => ⟨S_, .i32⟩
  | 68 => ⟨S_, .f32⟩
  | 69 => ⟨S2x1024, .f32⟩
  | 70 => ⟨S2x1024x1, .f32⟩
  | 71 => ⟨S_, .f32⟩
  | 72 => ⟨S2x1024x1, .f32⟩
  | 73 => ⟨S2x1024x1, .f32⟩
  | 74 => ⟨S2x1024x768, .f32⟩
  | 75 => ⟨S2x1024x768, .f32⟩
  | 76 => ⟨S2x1024x768, .f32⟩
  | 77 => ⟨S_, .f32⟩
  | 78 => ⟨S_, .f32⟩
  | 79 => ⟨S_, .f32⟩
  | 80 => ⟨S_, .f32⟩
  | 81 => ⟨S2x1024, .f32⟩
  | 82 => ⟨S2x1024x1, .f32⟩
  | 83 => ⟨S2x1024x1, .f32⟩
  | 84 => ⟨S2x1024x1, .f32⟩
  | 85 => ⟨S_, .f32⟩
  | 86 => ⟨S_, .i1⟩
  | 87 => ⟨S_, .f32⟩
  | 88 => ⟨S_, .f32⟩
  | 89 => ⟨S2x1024x1, .f32⟩
  | 90 => ⟨S2x1024x1, .f32⟩
  | 91 => ⟨S2x1024x768, .f32⟩
  | 92 => ⟨S2x1024x768, .f32⟩
  | 93 => ⟨S_, .f32⟩
  | 94 => ⟨S2x1024x1, .f32⟩
  | 95 => ⟨S2x1024x1, .f32⟩
  | 96 => ⟨S2x1024x1, .f32⟩
  | 97 => ⟨S2x1024x768, .f32⟩
  | 98 => ⟨S2x1024x768, .f32⟩
  | 99 => ⟨S1x1x768, .f32⟩
  | 100 => ⟨S2x1024x768, .f32⟩
  | 101 => ⟨S2x1024x768, .f32⟩
  | 102 => ⟨S1x1x768, .f32⟩
  | 103 => ⟨S2x1024x768, .f32⟩
  | 104 => ⟨S2x1024x768, .f32⟩
  | 105 => ⟨S2048x768, .f32⟩
  | 106 => ⟨S_, .i32⟩
  | 107 => ⟨S_, .i1⟩
  | 108 => ⟨S_, .i32⟩
  | 109 => ⟨S_, .i32⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S_, .i32⟩
  | 117 => ⟨S_, .i32⟩
  | 118 => ⟨S_, .i32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S_, .i32⟩
  | 126 => ⟨S_, .i32⟩
  | 127 => ⟨S1x768x4, .f32⟩
  | _ => ⟨S2x768x32x32, .f32⟩

abbrev hbmTy0_1 (i : Nat) : BufTy := match i % 128 with
  | 0 => ⟨S768x4, .f32⟩
  | 1 => ⟨S2048x4, .f32⟩
  | 2 => ⟨S2048x2, .f32⟩
  | 3 => ⟨S2048x2, .i32⟩
  | 4 => ⟨S_, .f32⟩
  | 5 => ⟨S2048, .f32⟩
  | 6 => ⟨S_, .f32⟩
  | 7 => ⟨S2048, .f32⟩
  | 8 => ⟨S2048, .f32⟩
  | 9 => ⟨S2048x1, .f32⟩
  | 10 => ⟨S2048x2, .f32⟩
  | 11 => ⟨S2048x2, .f32⟩
  | 12 => ⟨S2048x2, .f32⟩
  | 13 => ⟨S_, .f32⟩
  | 14 => ⟨S2048, .f32⟩
  | 15 => ⟨S2048x1, .f32⟩
  | 16 => ⟨S2048x2, .f32⟩
  | 17 => ⟨S2048x2, .f32⟩
  | 18 => ⟨S_, .f32⟩
  | 19 => ⟨S2048x4, .f32⟩
  | 20 => ⟨S2048, .i32⟩
  | 21 => ⟨S2048x1, .i32⟩
  | 22 => ⟨S_, .i32⟩
  | 23 => ⟨S2048x1, .i32⟩
  | 24 => ⟨S2048x1, .i1⟩
  | 25 => ⟨S_, .i32⟩
  | 26 => ⟨S2048x1, .i32⟩
  | 27 => ⟨S2048x1, .i32⟩
  | 28 => ⟨S2048x1, .i32⟩
  | 29 => ⟨S_, .i32⟩
  | 30 => ⟨S2048x2, .i32⟩
  | 31 => ⟨S2048x2, .i1⟩
  | 32 => ⟨S_, .i32⟩
  | 33 => ⟨S2048x2, .i32⟩
  | 34 => ⟨S2048x2, .i32⟩
  | 35 => ⟨S2048x2, .i32⟩
  | 36 => ⟨S2048x2, .i32⟩
  | 37 => ⟨S2048x2x1, .i32⟩
  | 38 => ⟨S2048x2x1, .i32⟩
  | 39 => ⟨S2048x2x2, .i32⟩
  | 40 => ⟨S2048x4, .f32⟩
  | 41 => ⟨S_, .f32⟩
  | 42 => ⟨S4, .f32⟩
  | 43 => ⟨S_, .f32⟩
  | 44 => ⟨S2048x4, .f32⟩
  | 45 => ⟨S2048x4, .i1⟩
  | 46 => ⟨S2048x4, .f32⟩
  | 47 => ⟨S_, .f32⟩
  | 48 => ⟨S4, .f32⟩
  | 49 => ⟨S_, .i32⟩
  | 50 => ⟨S_, .f32⟩
  | 51 => ⟨S_, .f32⟩
  | 52 => ⟨S1, .f32⟩
  | 53 => ⟨S_, .f32⟩
  | 54 => ⟨S1, .f32⟩
  | 55 => ⟨S1, .f32⟩
  | 56 => ⟨S4, .f32⟩
  | 57 => ⟨S4, .f32⟩
  | 58 => ⟨S4, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .i1⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .i32⟩
  | 79 => ⟨S_, .f32⟩
  | 80 => ⟨S_, .f32⟩
  | 81 => ⟨S1, .f32⟩
  | 82 => ⟨S_, .f32⟩
  | 83 => ⟨S1, .f32⟩
  | 84 => ⟨S1, .f32⟩
  | 85 => ⟨S4, .f32⟩
  | 86 => ⟨S4, .f32⟩
  | 87 => ⟨S4, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i1⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S2048x4x384, .f32⟩
  | 111 => ⟨S1x4x384, .f32⟩
  | 112 => ⟨S2048x4x384, .f32⟩
  | 113 => ⟨S2048x4x384, .f32⟩
  | 114 => ⟨S_, .f32⟩
  | 115 => ⟨S2048x4x384, .f32⟩
  | 116 => ⟨S2048x4x384, .f32⟩
  | 117 => ⟨S4x768x2048, .f32⟩
  | 118 => ⟨S2048x4x768, .f32⟩
  | 119 => ⟨S1x4x768, .f32⟩
  | 120 => ⟨S2048x4x768, .f32⟩
  | 121 => ⟨S2048x4x768, .f32⟩
  | 122 => ⟨S2048x4x1, .f32⟩
  | 123 => ⟨S2048x4x768, .f32⟩
  | 124 => ⟨S2048x4x768, .f32⟩
  | 125 => ⟨S_, .f32⟩
  | 126 => ⟨S2048x768, .f32⟩
  | 127 => ⟨S2x1024x768, .f32⟩
  | _ => ⟨S2x768x32x32, .f32⟩

abbrev hbmTy0_2 (i : Nat) : BufTy := match i % 128 with
  | 0 => ⟨S2x768x1024, .f32⟩
  | 1 => ⟨S2x768x32x32, .f32⟩
  | 2 => ⟨S2x768x32x32, .f32⟩
  | _ => ⟨S2x768x32x32, .f32⟩

abbrev hbmTy (i : Nat) : BufTy := match i / 128 with
  | 0 => hbmTy0_0 i
  | 1 => hbmTy0_1 i
  | 2 => hbmTy0_2 i
  | _ => ⟨S2x768x32x32, .f32⟩

abbrev bufTy : (tb : Table) → Fin (tcTables nBuf tb) → BufTy
  | .hbm, ⟨i, _⟩ => hbmTy i
  | _, _ => ⟨S2x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call0_cst : Ref sig .tc := ⟨.hbm, 26, rfl⟩
abbrev main_call0_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call1_cst : Ref sig .tc := ⟨.hbm, 58, rfl⟩
abbrev main_call1_v0 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_c : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_v12 : Ref sig .tc := ⟨.hbm, 84, rfl⟩
abbrev main_call2_cst_3 : Ref sig .tc := ⟨.hbm, 85, rfl⟩
abbrev main_call2_v13 : Ref sig .tc := ⟨.hbm, 86, rfl⟩
abbrev main_call2_cst_4 : Ref sig .tc := ⟨.hbm, 87, rfl⟩
abbrev main_call2_call0_v0 : Ref sig .tc := ⟨.hbm, 88, rfl⟩
abbrev main_call2_call0_v1 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_cst_6 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_7 : Ref sig .tc := ⟨.hbm, 106, rfl⟩
abbrev main_v56 : Ref sig .tc := ⟨.hbm, 107, rfl⟩
abbrev main_c_8 : Ref sig .tc := ⟨.hbm, 108, rfl⟩
abbrev main_v57 : Ref sig .tc := ⟨.hbm, 109, rfl⟩
abbrev main_v58 : Ref sig .tc := ⟨.hbm, 110, rfl⟩
abbrev main_c_9 : Ref sig .tc := ⟨.hbm, 111, rfl⟩
abbrev main_c_10 : Ref sig .tc := ⟨.hbm, 112, rfl⟩
abbrev main_v59 : Ref sig .tc := ⟨.hbm, 113, rfl⟩
abbrev main_c_11 : Ref sig .tc := ⟨.hbm, 114, rfl⟩
abbrev main_c_12 : Ref sig .tc := ⟨.hbm, 115, rfl⟩
abbrev main_v60 : Ref sig .tc := ⟨.hbm, 116, rfl⟩
abbrev main_c_13 : Ref sig .tc := ⟨.hbm, 117, rfl⟩
abbrev main_v61 : Ref sig .tc := ⟨.hbm, 118, rfl⟩
abbrev main_c_14 : Ref sig .tc := ⟨.hbm, 119, rfl⟩
abbrev main_c_15 : Ref sig .tc := ⟨.hbm, 120, rfl⟩
abbrev main_v62 : Ref sig .tc := ⟨.hbm, 121, rfl⟩
abbrev main_c_16 : Ref sig .tc := ⟨.hbm, 122, rfl⟩
abbrev main_c_17 : Ref sig .tc := ⟨.hbm, 123, rfl⟩
abbrev main_v63 : Ref sig .tc := ⟨.hbm, 124, rfl⟩
abbrev main_c_18 : Ref sig .tc := ⟨.hbm, 125, rfl⟩
abbrev main_v64 : Ref sig .tc := ⟨.hbm, 126, rfl⟩
abbrev main_v65 : Ref sig .tc := ⟨.hbm, 127, rfl⟩
abbrev main_v66 : Ref sig .tc := ⟨.hbm, 128, rfl⟩
abbrev main_v67 : Ref sig .tc := ⟨.hbm, 129, rfl⟩
abbrev main_values : Ref sig .tc := ⟨.hbm, 130, rfl⟩
abbrev main_indices : Ref sig .tc := ⟨.hbm, 131, rfl⟩
abbrev main_cst_19 : Ref sig .tc := ⟨.hbm, 132, rfl⟩
abbrev main_v68 : Ref sig .tc := ⟨.hbm, 133, rfl⟩
abbrev main_cst_20 : Ref sig .tc := ⟨.hbm, 134, rfl⟩
abbrev main_v69 : Ref sig .tc := ⟨.hbm, 135, rfl⟩
abbrev main_v70 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_cst_21 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_cst_22 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_c_23 : Ref sig .tc := ⟨.hbm, 150, rfl⟩
abbrev main_v82 : Ref sig .tc := ⟨.hbm, 151, rfl⟩
abbrev main_v83 : Ref sig .tc := ⟨.hbm, 152, rfl⟩
abbrev main_c_24 : Ref sig .tc := ⟨.hbm, 153, rfl⟩
abbrev main_v84 : Ref sig .tc := ⟨.hbm, 154, rfl⟩
abbrev main_v85 : Ref sig .tc := ⟨.hbm, 155, rfl⟩
abbrev main_v86 : Ref sig .tc := ⟨.hbm, 156, rfl⟩
abbrev main_c_25 : Ref sig .tc := ⟨.hbm, 157, rfl⟩
abbrev main_v87 : Ref sig .tc := ⟨.hbm, 158, rfl⟩
abbrev main_v88 : Ref sig .tc := ⟨.hbm, 159, rfl⟩
abbrev main_c_26 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_cst_27 : Ref sig .tc := ⟨.hbm, 169, rfl⟩
abbrev main_v97 : Ref sig .tc := ⟨.hbm, 170, rfl⟩
abbrev main_cst_28 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_cst_29 : Ref sig .tc := ⟨.hbm, 175, rfl⟩
abbrev main_v101 : Ref sig .tc := ⟨.hbm, 176, rfl⟩
abbrev main_c_30 : Ref sig .tc := ⟨.hbm, 177, rfl⟩
abbrev main_call3_cst : Ref sig .tc := ⟨.hbm, 178, rfl⟩
abbrev main_call3_v0 : Ref sig .tc := ⟨.hbm, 179, rfl⟩
abbrev main_call3_v1 : Ref sig .tc := ⟨.hbm, 180, rfl⟩
abbrev main_call3_cst_0 : Ref sig .tc := ⟨.hbm, 181, rfl⟩
abbrev main_call3_v2 : Ref sig .tc := ⟨.hbm, 182, rfl⟩
abbrev main_call3_v3 : Ref sig .tc := ⟨.hbm, 183, rfl⟩
abbrev main_call3_v4 : Ref sig .tc := ⟨.hbm, 184, rfl⟩
abbrev main_call3_v5 : Ref sig .tc := ⟨.hbm, 185, rfl⟩
abbrev main_call3_v6 : Ref sig .tc := ⟨.hbm, 186, rfl⟩
abbrev main_call3_v7 : Ref sig .tc := ⟨.hbm, 187, rfl⟩
abbrev main_call3_cst_1 : Ref sig .tc := ⟨.hbm, 188, rfl⟩
abbrev main_call3_v8 : Ref sig .tc := ⟨.hbm, 189, rfl⟩
abbrev main_call3_cst_2 : Ref sig .tc := ⟨.hbm, 190, rfl⟩
abbrev main_call3_v9 : Ref sig .tc := ⟨.hbm, 191, rfl⟩
abbrev main_call3_v10 : Ref sig .tc := ⟨.hbm, 192, rfl⟩
abbrev main_call3_cst_3 : Ref sig .tc := ⟨.hbm, 193, rfl⟩
abbrev main_call3_v11 : Ref sig .tc := ⟨.hbm, 194, rfl⟩
abbrev main_call3_cst_4 : Ref sig .tc := ⟨.hbm, 195, rfl⟩
abbrev main_call3_call0_v0 : Ref sig .tc := ⟨.hbm, 196, rfl⟩
abbrev main_v102 : Ref sig .tc := ⟨.hbm, 197, rfl⟩
abbrev main_cst_31 : Ref sig .tc := ⟨.hbm, 198, rfl⟩
abbrev main_v103 : Ref sig .tc := ⟨.hbm, 199, rfl⟩
abbrev main_cst_32 : Ref sig .tc := ⟨.hbm, 200, rfl⟩
abbrev main_v104 : Ref sig .tc := ⟨.hbm, 201, rfl⟩
abbrev main_v105 : Ref sig .tc := ⟨.hbm, 202, rfl⟩
abbrev main_cst_33 : Ref sig .tc := ⟨.hbm, 203, rfl⟩
abbrev main_v106 : Ref sig .tc := ⟨.hbm, 204, rfl⟩
abbrev main_v107 : Ref sig .tc := ⟨.hbm, 205, rfl⟩
abbrev main_c_34 : Ref sig .tc := ⟨.hbm, 206, rfl⟩
abbrev main_call4_cst : Ref sig .tc := ⟨.hbm, 207, rfl⟩
abbrev main_call4_v0 : Ref sig .tc := ⟨.hbm, 208, rfl⟩
abbrev main_call4_v1 : Ref sig .tc := ⟨.hbm, 209, rfl⟩
abbrev main_call4_cst_0 : Ref sig .tc := ⟨.hbm, 210, rfl⟩
abbrev main_call4_v2 : Ref sig .tc := ⟨.hbm, 211, rfl⟩
abbrev main_call4_v3 : Ref sig .tc := ⟨.hbm, 212, rfl⟩
abbrev main_call4_v4 : Ref sig .tc := ⟨.hbm, 213, rfl⟩
abbrev main_call4_v5 : Ref sig .tc := ⟨.hbm, 214, rfl⟩
abbrev main_call4_v6 : Ref sig .tc := ⟨.hbm, 215, rfl⟩
abbrev main_call4_v7 : Ref sig .tc := ⟨.hbm, 216, rfl⟩
abbrev main_call4_cst_1 : Ref sig .tc := ⟨.hbm, 217, rfl⟩
abbrev main_call4_v8 : Ref sig .tc := ⟨.hbm, 218, rfl⟩
abbrev main_call4_cst_2 : Ref sig .tc := ⟨.hbm, 219, rfl⟩
abbrev main_call4_v9 : Ref sig .tc := ⟨.hbm, 220, rfl⟩
abbrev main_call4_v10 : Ref sig .tc := ⟨.hbm, 221, rfl⟩
abbrev main_call4_cst_3 : Ref sig .tc := ⟨.hbm, 222, rfl⟩
abbrev main_call4_v11 : Ref sig .tc := ⟨.hbm, 223, rfl⟩
abbrev main_call4_cst_4 : Ref sig .tc := ⟨.hbm, 224, rfl⟩
abbrev main_call4_call0_v0 : Ref sig .tc := ⟨.hbm, 225, rfl⟩
abbrev main_v108 : Ref sig .tc := ⟨.hbm, 226, rfl⟩
abbrev main_cst_35 : Ref sig .tc := ⟨.hbm, 227, rfl⟩
abbrev main_v109 : Ref sig .tc := ⟨.hbm, 228, rfl⟩
abbrev main_cst_36 : Ref sig .tc := ⟨.hbm, 229, rfl⟩
abbrev main_v110 : Ref sig .tc := ⟨.hbm, 230, rfl⟩
abbrev main_v111 : Ref sig .tc := ⟨.hbm, 231, rfl⟩
abbrev main_cst_37 : Ref sig .tc := ⟨.hbm, 232, rfl⟩
abbrev main_v112 : Ref sig .tc := ⟨.hbm, 233, rfl⟩
abbrev main_v113 : Ref sig .tc := ⟨.hbm, 234, rfl⟩
abbrev main_v114 : Ref sig .tc := ⟨.hbm, 235, rfl⟩
abbrev main_cst_38 : Ref sig .tc := ⟨.hbm, 236, rfl⟩
abbrev main_v115 : Ref sig .tc := ⟨.hbm, 237, rfl⟩
abbrev main_v116 : Ref sig .tc := ⟨.hbm, 238, rfl⟩
abbrev main_v117 : Ref sig .tc := ⟨.hbm, 239, rfl⟩
abbrev main_v118 : Ref sig .tc := ⟨.hbm, 240, rfl⟩
abbrev main_v119 : Ref sig .tc := ⟨.hbm, 241, rfl⟩
abbrev main_call5_cst : Ref sig .tc := ⟨.hbm, 242, rfl⟩
abbrev main_call5_v0 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_cst_39 : Ref sig .tc := ⟨.hbm, 253, rfl⟩
abbrev main_v129 : Ref sig .tc := ⟨.hbm, 254, rfl⟩
abbrev main_v130 : Ref sig .tc := ⟨.hbm, 255, rfl⟩
abbrev main_v131 : Ref sig .tc := ⟨.hbm, 256, rfl⟩
abbrev main_v132 : Ref sig .tc := ⟨.hbm, 257, rfl⟩
abbrev main_v133 : Ref sig .tc := ⟨.hbm, 258, rfl⟩

abbrev nD : Nat := 1
abbrev τ : Topo := Topo.v7x

variable {F : FTy → Type} [FloatOps F]
-- ==== Proof.Steps.lean ====
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # What one grid point does, as functions of whole buffers

The grid is two batch rows by five phases.  Phase 0 computes the fused features, the gates, the fused image and adds
to the two rows of statistics; phase `e + 1` adds expert `e`.  Each function below is what one of the buffers the
kernel keeps between points holds after a point, from the blocks the point reads and what the buffers held before. -/

/-- The features before the rectifier: the two halves of the concatenation against the two halves of the weight. -/
def preFeat (x0 x1 : Vec F S1x1024x768 .f32) (x2 : Vec F S768x1536 .f32) : FVec F S1024x768 .f32 :=
  k0_pay10 x0 x1 (VecWindow.window x2 ![0, 0] S768x768.size inb_S768x1536_S768x768_0_0)
    (VecWindow.window x2 ![0, 768] S768x768.size inb_S768x1536_S768x768_0_768)

/-- The zero the rectifier compares with. -/
abbrev zeroWord : F .f32 := Scalar.ofBits .f32 0x00000000#32

/-- The normalised features as the kernel keeps them. -/
def featOf (x0 x1 : Vec F S1x1024x768 .f32) (x2 : Vec F S768x1536 .f32) (x3 x4 : Vec F S1x768 .f32) : FVec F S1024x768 .bf16 :=
  k0_pay12 (preFeat x0 x1 x2) zeroWord x3 x4

/-- The column numbers. -/
abbrev colIota : IVec S1024x4 32 := iota .tc S1024x4 32 [1] iota_S1024x4_d1_w32

/-- The gates of the block. -/
def gatesOf (x0 x1 : Vec F S1x1024x768 .f32) (x2 : Vec F S768x1536 .f32) (x3 x4 : Vec F S1x768 .f32) (x5 : Vec F S768x4 .f32) : FVec F S1024x4 .f32 :=
  k0_pay16 (k0_pay13 (preFeat x0 x1 x2) zeroWord x3 x4 x5) colIota (k0_pay14 (preFeat x0 x1 x2) zeroWord x3 x4 x5) (k0_pay15 (preFeat x0 x1 x2) zeroWord x3 x4 x5)

/-- The gates as stored. -/
def gatesStored (x0 x1 : Vec F S1x1024x768 .f32) (x2 : Vec F S768x1536 .f32) (x3 x4 : Vec F S1x768 .f32) (x5 : Vec F S768x4 .f32) : FVec F S1024x4 .f32 :=
  k0_pay17 (k0_pay13 (preFeat x0 x1 x2) zeroWord x3 x4 x5) colIota (k0_pay14 (preFeat x0 x1 x2) zeroWord x3 x4 x5) (k0_pay15 (preFeat x0 x1 x2) zeroWord x3 x4 x5)

/-- The fused image: `a x + (1 - a) t`. -/
def fusedOf (x0 x1 : Vec F S1x1024x768 .f32) (x6 : Vec F S48x768 .f32) (x7 : Vec F S1x48 .f32) (x8 : Vec F S768x48 .f32) (x9 : Vec F S1x768 .f32) : FVec F S1024x768 .f32 :=
  k0_pay3 (k0_pay7 x0) (k0_pay8 x1) (k0_pay9 x0 x1 x6 x7 x8 x9)

/-- The row of importances after a phase 0: the row before and the column sums of the gates. -/
def impRow (x0 x1 : Vec F S1x1024x768 .f32) (x2 : Vec F S768x1536 .f32) (x3 x4 : Vec F S1x768 .f32) (x5 : Vec F S768x4 .f32) (r : Vec F S1x4 .f32) : FVec F S1x4 .f32 :=
  k0_pay18 (k0_pay13 (preFeat x0 x1 x2) zeroWord x3 x4 x5) colIota (k0_pay14 (preFeat x0 x1 x2) zeroWord x3 x4 x5) (k0_pay15 (preFeat x0 x1 x2) zeroWord x3 x4 x5) r

/-- Row `0` of the statistics buffer, its first four columns. -/
abbrev statRow0 (s : Vec F S8x128 .f32) : Vec F S1x4 .f32 := VecWindow.window s ![0, 0] S1x4.size inb_S8x128_S1x4_0_0
/-- Row `1` of it. -/
abbrev statRow1 (s : Vec F S8x128 .f32) : Vec F S1x4 .f32 := VecWindow.window s ![1, 0] S1x4.size inb_S8x128_S1x4_1_0

/-- The statistics buffer after a phase 0, from what it held. -/
def statOf (x0 x1 : Vec F S1x1024x768 .f32) (x2 : Vec F S768x1536 .f32) (x3 x4 : Vec F S1x768 .f32) (x5 : Vec F S768x4 .f32) (s : Vec F S8x128 .f32) : Vec F S8x128 .f32 :=
  VecWindow.put (VecWindow.put s ![0, 0] S1x4.size (impRow x0 x1 x2 x3 x4 x5 (statRow0 s))) ![1, 0] S1x4.size
    (k0_pay2 (gatesOf x0 x1 x2 x3 x4 x5) (statRow1 s))

/-- Column `e` of the gates, as the branch of the switch for expert `e` loads it. -/
def gateCol (g : Vec F S1024x4 .f32) (e : Fin 4) : Vec F S1024x1 .f32 := match e with
  | 0 => VecWindow.window g ![0, 0] S1024x1.size inb_S1024x4_S1024x1_0_0
  | 1 => VecWindow.window g ![0, 1] S1024x1.size inb_S1024x4_S1024x1_0_1
  | 2 => VecWindow.window g ![0, 2] S1024x1.size inb_S1024x4_S1024x1_0_2
  | 3 => VecWindow.window g ![0, 3] S1024x1.size inb_S1024x4_S1024x1_0_3

/-- The accumulator after expert `e`, from the features, the gates and what it held. -/
def expertAcc (x10 : Vec F S1x384x768 .f32) (x11 : Vec F S1x1x384 .f32) (x12 : Vec F S1x768x384 .f32) (x13 : Vec F S1x1x768 .f32)
    (yb : Vec F S1024x768 .bf16) (g : Vec F S1024x4 .f32) (acc : Vec F S1024x768 .f32) (e : Fin 4) : FVec F S1024x768 .f32 :=
  k0_pay4 x10 yb x11 x12 x13 (gateCol g e) acc

/-- The balance penalty from the statistics buffer. -/
def auxOf (s : Vec F S8x128 .f32) : FVec F S1x1 .f32 := k0_pay6 (statRow0 s) (statRow1 s)

/-! ## The same functions at what the loads read

Each equation replaces the values a point has loaded by the blocks and buffers they were loaded from. -/

section Loaded

variable {x0 x1 a0 a1 : Vec F S1x1024x768 .f32} {x2 : Vec F S768x1536 .f32} {l r : Vec F S768x768 .f32} {x3 x4 a3 a4 : Vec F S1x768 .f32} {x5 a5 : Vec F S768x4 .f32}

theorem feat_loaded (h0 : a0 = x0) (h1 : a1 = x1) (hl : l = VecWindow.window x2 ![0, 0] S768x768.size inb_S768x1536_S768x768_0_0)
    (hr : r = VecWindow.window x2 ![0, 768] S768x768.size inb_S768x1536_S768x768_0_768) (h3 : a3 = x3) (h4 : a4 = x4) :
    k0_pay12 (k0_pay10 a0 a1 l r) zeroWord a3 a4 = featOf x0 x1 x2 x3 x4 := by
  subst h0 h1 hl hr h3 h4; rfl

theorem gatesStored_loaded (h0 : a0 = x0) (h1 : a1 = x1) (hl : l = VecWindow.window x2 ![0, 0] S768x768.size inb_S768x1536_S768x768_0_0)
    (hr : r = VecWindow.window x2 ![0, 768] S768x768.size inb_S768x1536_S768x768_0_768) (h3 : a3 = x3) (h4 : a4 = x4) (h5 : a5 = x5) :
    k0_pay17 (k0_pay13 (k0_pay10 a0 a1 l r) zeroWord a3 a4 a5) colIota (k0_pay14 (k0_pay10 a0 a1 l r) zeroWord a3 a4 a5)
      (k0_pay15 (k0_pay10 a0 a1 l r) zeroWord a3 a4 a5) = gatesStored x0 x1 x2 x3 x4 x5 := by
  subst h0 h1 hl hr h3 h4 h5; rfl

theorem fused_loaded {x6 a6 : Vec F S48x768 .f32} {x7 a7 : Vec F S1x48 .f32} {x8 a8 : Vec F S768x48 .f32} {x9 a9 : Vec F S1x768 .f32}
    (h0 : a0 = x0) (h1 : a1 = x1) (h6 : a6 = x6) (h7 : a7 = x7) (h8 : a8 = x8) (h9 : a9 = x9) :
    k0_pay3 (k0_pay7 a0) (k0_pay8 a1) (k0_pay9 a0 a1 a6 a7 a8 a9) = fusedOf x0 x1 x6 x7 x8 x9 := by
  subst h0 h1 h6 h7 h8 h9; rfl

theorem stat_loaded {st : Vec F S8x128 .f32} {r0 r1 : Vec F S1x4 .f32} (h0 : a0 = x0) (h1 : a1 = x1)
    (hl : l = VecWindow.window x2 ![0, 0] S768x768.size inb_S768x1536_S768x768_0_0)
    (hr : r = VecWindow.window x2 ![0, 768] S768x768.size inb_S768x1536_S768x768_0_768) (h3 : a3 = x3) (h4 : a4 = x4) (h5 : a5 = x5)
    (hr0 : r0 = statRow0 st) (hr1 : r1 = statRow1 st) :
    VecWindow.put (VecWindow.put st ![0, 0] S1x4.size
        (k0_pay18 (k0_pay13 (k0_pay10 a0 a1 l r) zeroWord a3 a4 a5) colIota (k0_pay14 (k0_pay10 a0 a1 l r) zeroWord a3 a4 a5)
          (k0_pay15 (k0_pay10 a0 a1 l r) zeroWord a3 a4 a5) r0)) ![1, 0] S1x4.size
        (k0_pay2 (k0_pay16 (k0_pay13 (k0_pay10 a0 a1 l r) zeroWord a3 a4 a5) colIota (k0_pay14 (k0_pay10 a0 a1 l r) zeroWord a3 a4 a5)
          (k0_pay15 (k0_pay10 a0 a1 l r) zeroWord a3 a4 a5)) r1)
      = statOf x0 x1 x2 x3 x4 x5 st := by
  subst h0 h1 hl hr h3 h4 h5 hr0 hr1; rfl

theorem expert_loaded {x10 a10 : Vec F S1x384x768 .f32} {x11 a11 : Vec F S1x1x384 .f32} {x12 a12 : Vec F S1x768x384 .f32} {x13 a13 : Vec F S1x1x768 .f32}
    {yb ayb : Vec F S1024x768 .bf16} {g : Vec F S1024x4 .f32} {acc aacc : Vec F S1024x768 .f32} {e : Fin 4} {col : Vec F S1024x1 .f32}
    (h10 : a10 = x10) (hy : ayb = yb) (h11 : a11 = x11) (h12 : a12 = x12) (h13 : a13 = x13) (hg : col = gateCol g e) (ha : aacc = acc) :
    k0_pay4 a10 ayb a11 a12 a13 col aacc = expertAcc x10 x11 x12 x13 yb g acc e := by
  subst h10 hy h11 h12 h13 hg ha; rfl

end Loaded

/-! ## The conditions of the body's branches, from the grid coordinates -/

/-- The first point of all. -/
abbrev condFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- Phase 0. -/
abbrev condGate (i : grid0.Coords) : Prop := (Scalar.cmpi .ne (Scalar.extui (Scalar.cmpi .eq (BitVec.ofNat 32 (i 1).val) 0#32)) 0#32) = 1#1
/-- A phase of an expert. -/
abbrev condExpert (i : grid0.Coords) : Prop := (Scalar.cmpi .ne (Scalar.extui (Scalar.cmpi .sgt (BitVec.ofNat 32 (i 1).val) 0#32)) 0#32) = 1#1
/-- The last phase. -/
abbrev condEmit (i : grid0.Coords) : Prop := k0_cond7 i = 1#1
/-- The last point of all. -/
abbrev condLast (i : grid0.Coords) : Prop := k0_cond8 i = 1#1
/-- The index of the switch, clamped into its branches. -/
abbrev swIdx (i : grid0.Coords) : BitVec 32 := Scalar.minsi (Scalar.maxsi (Scalar.subi (BitVec.ofNat 32 (i 1).val) 1#32) 0#32) 3#32
/-- The switch is past branch 0, -/
abbrev swPast0 (i : grid0.Coords) : Prop := Scalar.cmpi .ne (swIdx i) 0#32 = 1#1
/-- past branch 1, -/
abbrev swPast1 (i : grid0.Coords) : Prop := Scalar.cmpi .ne (Scalar.subi (swIdx i) 1#32) 0#32 = 1#1
/-- past branch 2. -/
abbrev swPast2 (i : grid0.Coords) : Prop := Scalar.cmpi .ne (Scalar.subi (Scalar.subi (swIdx i) 1#32) 1#32) 0#32 = 1#1

theorem condFirst_iff : ∀ i : grid0.Coords, condFirst i ↔ (i 0).val = 0 ∧ (i 1).val = 0 := fun i =>
  (by decide +kernel : ∀ (a : Fin 2) (b : Fin 5), (Scalar.cmpi .ne (Scalar.extui (Scalar.andi (Scalar.cmpi .eq (BitVec.ofNat 32 a.val) 0#32) (Scalar.cmpi .eq (BitVec.ofNat 32 b.val) 0#32))) 0#32 : BitVec 1) = 1#1 ↔ a.val = 0 ∧ b.val = 0) (i 0) (i 1)
theorem condGate_iff : ∀ i : grid0.Coords, condGate i ↔ (i 1).val = 0 := fun i =>
  (by decide +kernel : ∀ b : Fin 5, (Scalar.cmpi .ne (Scalar.extui (Scalar.cmpi .eq (BitVec.ofNat 32 b.val) 0#32)) 0#32 : BitVec 1) = 1#1 ↔ b.val = 0) (i 1)
theorem condExpert_iff : ∀ i : grid0.Coords, condExpert i ↔ (i 1).val ≠ 0 := fun i =>
  (by decide +kernel : ∀ b : Fin 5, (Scalar.cmpi .ne (Scalar.extui (Scalar.cmpi .sgt (BitVec.ofNat 32 b.val) 0#32)) 0#32 : BitVec 1) = 1#1 ↔ b.val ≠ 0) (i 1)
theorem condEmit_iff : ∀ i : grid0.Coords, condEmit i ↔ (i 1).val = 4 := fun i =>
  (by decide +kernel : ∀ b : Fin 5, (Scalar.cmpi .ne (Scalar.extui (Scalar.cmpi .eq (BitVec.ofNat 32 b.val) 4#32)) 0#32 : BitVec 1) = 1#1 ↔ b.val = 4) (i 1)
theorem condLast_iff : ∀ i : grid0.Coords, condLast i ↔ (i 0).val = 1 ∧ (i 1).val = 4 := fun i =>
  (by decide +kernel : ∀ (a : Fin 2) (b : Fin 5), (Scalar.cmpi .ne (Scalar.extui (Scalar.andi (Scalar.cmpi .eq (BitVec.ofNat 32 a.val) 1#32) (Scalar.cmpi .eq (BitVec.ofNat 32 b.val) 4#32))) 0#32 : BitVec 1) = 1#1 ↔ a.val = 1 ∧ b.val = 4) (i 0) (i 1)

/-- In phase `e + 1` the switch takes branch `e`: the nested conditions say so. -/
theorem switch_cases (i : grid0.Coords) (e : Fin 4) (h : (i 1).val = e.val + 1) :
    (¬ swPast0 i ∧ e = 0) ∨ (swPast0 i ∧ ¬ swPast1 i ∧ e = 1) ∨ (swPast0 i ∧ swPast1 i ∧ ¬ swPast2 i ∧ e = 2)
      ∨ (swPast0 i ∧ swPast1 i ∧ swPast2 i ∧ e = 3) :=
  (by decide +kernel : ∀ (b : Fin 5) (e : Fin 4), b.val = e.val + 1 →
    (¬ (Scalar.cmpi .ne (Scalar.minsi (Scalar.maxsi (Scalar.subi (BitVec.ofNat 32 b.val) 1#32) 0#32) 3#32) 0#32 : BitVec 1) = 1#1 ∧ e = 0)
    ∨ ((Scalar.cmpi .ne (Scalar.minsi (Scalar.maxsi (Scalar.subi (BitVec.ofNat 32 b.val) 1#32) 0#32) 3#32) 0#32 : BitVec 1) = 1#1
      ∧ ¬ (Scalar.cmpi .ne (Scalar.subi (Scalar.minsi (Scalar.maxsi (Scalar.subi (BitVec.ofNat 32 b.val) 1#32) 0#32) 3#32) 1#32) 0#32 : BitVec 1) = 1#1 ∧ e = 1)
    ∨ ((Scalar.cmpi .ne (Scalar.minsi (Scalar.maxsi (Scalar.subi (BitVec.ofNat 32 b.val) 1#32) 0#32) 3#32) 0#32 : BitVec 1) = 1#1
      ∧ (Scalar.cmpi .ne (Scalar.subi (Scalar.minsi (Scalar.maxsi (Scalar.subi (BitVec.ofNat 32 b.val) 1#32) 0#32) 3#32) 1#32) 0#32 : BitVec 1) = 1#1
      ∧ ¬ (Scalar.cmpi .ne (Scalar.subi (Scalar.subi (Scalar.minsi (Scalar.maxsi (Scalar.subi (BitVec.ofNat 32 b.val) 1#32) 0#32) 3#32) 1#32) 1#32) 0#32 : BitVec 1) = 1#1 ∧ e = 2)
    ∨ ((Scalar.cmpi .ne (Scalar.minsi (Scalar.maxsi (Scalar.subi (BitVec.ofNat 32 b.val) 1#32) 0#32) 3#32) 0#32 : BitVec 1) = 1#1
      ∧ (Scalar.cmpi .ne (Scalar.subi (Scalar.minsi (Scalar.maxsi (Scalar.subi (BitVec.ofNat 32 b.val) 1#32) 0#32) 3#32) 1#32) 0#32 : BitVec 1) = 1#1
      ∧ (Scalar.cmpi .ne (Scalar.subi (Scalar.subi (Scalar.minsi (Scalar.maxsi (Scalar.subi (BitVec.ofNat 32 b.val) 1#32) 0#32) 3#32) 1#32) 1#32) 0#32 : BitVec 1) = 1#1 ∧ e = 3)) (i 1) e h

end Cert.KernelIdeal.Gen

end
-- ==== Proof.RunMid.lean ====
module

public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1024x768 .f32) (harg2 : arg2.IsWhole)
  (arg3 : Memref sig .tc .vmem S1x1024x768 .f32) (harg3 : arg3.IsWhole)
  (arg4 : Memref sig .tc .vmem S768x1536 .f32) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S768x4 .f32) (harg7 : arg7.IsWhole)
  (arg8 : Memref sig .tc .vmem S48x768 .f32) (harg8 : arg8.IsWhole)
  (arg9 : Memref sig .tc .vmem S1x48 .f32) (harg9 : arg9.IsWhole)
  (arg10 : Memref sig .tc .vmem S768x48 .f32) (harg10 : arg10.IsWhole)
  (arg11 : Memref sig .tc .vmem S1x768 .f32) (harg11 : arg11.IsWhole)
  (arg12 : Memref sig .tc .vmem S1x384x768 .f32) (harg12 : arg12.IsWhole)
  (arg13 : Memref sig .tc .vmem S1x1x384 .f32) (harg13 : arg13.IsWhole)
  (arg14 : Memref sig .tc .vmem S1x768x384 .f32) (harg14 : arg14.IsWhole)
  (arg15 : Memref sig .tc .vmem S1x1x768 .f32) (harg15 : arg15.IsWhole)
  (arg16 : Memref sig .tc .vmem S1x1024x768 .f32) (harg16 : arg16.IsWhole)
  (arg17 : Memref sig .tc .vmem S1x1 .f32) (harg17 : arg17.IsWhole)
  (arg18 : Memref sig .tc .vmem S1024x768 .bf16) (harg18 : arg18.IsWhole)
  (arg19 : Memref sig .tc .vmem S1024x4 .f32) (harg19 : arg19.IsWhole)
  (arg20 : Memref sig .tc .vmem S1024x768 .f32) (harg20 : arg20.IsWhole)
  (arg21 : Memref sig .tc .vmem S8x128 .f32) (harg21 : arg21.IsWhole)

set_option maxHeartbeats 4000000 in
/-- An expert phase that is not the last: the accumulator takes the expert, all else stays. -/
theorem run_mid (e : Fin 4) (he : (i 1).val = e.val + 1) (hlt : (i 1).val < 4)
    (x0 : Vec F S1x1024x768 .f32) (x1 : Vec F S1x1024x768 .f32) (x2 : Vec F S768x1536 .f32) (x3 : Vec F S1x768 .f32) (x4 : Vec F S1x768 .f32) (x5 : Vec F S768x4 .f32) (x6 : Vec F S48x768 .f32) (x7 : Vec F S1x48 .f32) (x8 : Vec F S768x48 .f32) (x9 : Vec F S1x768 .f32) (x10 : Vec F S1x384x768 .f32) (x11 : Vec F S1x1x384 .f32) (x12 : Vec F S1x768x384 .f32) (x13 : Vec F S1x1x768 .f32) (o14 : Vec F S1x1024x768 .f32) (o15 : Vec F S1x1 .f32) (yb : Vec F S1024x768 .bf16) (g : Vec F S1024x4 .f32) (acc : Vec F S1024x768 .f32) (st : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare o14 ∗ owns (c : Thread nD τ) arg17 fullShare o15 ∗ owns (c : Thread nD τ) arg18 fullShare yb ∗ owns (c : Thread nD τ) arg19 fullShare g ∗ owns (c : Thread nD τ) arg20 fullShare acc ∗ owns (c : Thread nD τ) arg21 fullShare st
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare o14 ∗ owns (c : Thread nD τ) arg17 fullShare o15 ∗ owns (c : Thread nD τ) arg18 fullShare yb ∗ owns (c : Thread nD τ) arg19 fullShare g ∗ owns (c : Thread nD τ) arg20 fullShare (expertAcc x10 x11 x12 x13 yb g acc e) ∗ owns (c : Thread nD τ) arg21 fullShare st) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have c1 : ¬ condFirst i := fun h => by have := (condFirst_iff i).mp h; omega
  have c2 : ¬ condGate i := fun h => by have := (condGate_iff i).mp h; omega
  have c3 : condExpert i := (condExpert_iff i).mpr (by omega)
  have c7 : ¬ condEmit i := fun h => by have := (condEmit_iff i).mp h; omega
  have c8 : ¬ condLast i := fun h => by have := (condLast_iff i).mp h; omega
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf16; obtain rfl := harg17.eq_unread hf17; obtain rfl := harg18.eq_unread hf18; obtain rfl := harg19.eq_unread hf19; obtain rfl := harg20.eq_unread hf20; obtain rfl := harg21.eq_unread hf21
  rcases switch_cases i e he with ⟨h4, rfl⟩ | ⟨h4, h5, rfl⟩ | ⟨h4, h5, h6, rfl⟩ | ⟨h4, h5, h6, rfl⟩
  on_goal 4 => (exfalso; have hv : (i 1).val = 4 := he; omega)
  all_goals (
    sl_exec (disch := first | sl_exact c1 | sl_exact c2 | sl_exact c3 | sl_exact c7 | sl_exact c8 | sl_exact h4 | sl_exact h5 | sl_exact h6)
    sl_step
    iapply Hk
    isplitl [H0]
    · iexists _; isplitr
      swap; · iexact H0
      ipureintro
      exact harg2.read_unread _
    isplitl [H1]
    · iexists _; isplitr
      swap; · iexact H1
      ipureintro
      exact harg3.read_unread _
    isplitl [H2]
    · iexists _; isplitr
      swap; · iexact H2
      ipureintro
      exact harg4.read_unread _
    isplitl [H3]
    · iexists _; isplitr
      swap; · iexact H3
      ipureintro
      exact harg5.read_unread _
    isplitl [H4]
    · iexists _; isplitr
      swap; · iexact H4
      ipureintro
      exact harg6.read_unread _
    isplitl [H5]
    · iexists _; isplitr
      swap; · iexact H5
      ipureintro
      exact harg7.read_unread _
    isplitl [H6]
    · iexists _; isplitr
      swap; · iexact H6
      ipureintro
      exact harg8.read_unread _
    isplitl [H7]
    · iexists _; isplitr
      swap; · iexact H7
      ipureintro
      exact harg9.read_unread _
    isplitl [H8]
    · iexists _; isplitr
      swap; · iexact H8
      ipureintro
      exact harg10.read_unread _
    isplitl [H9]
    · iexists _; isplitr
      swap; · iexact H9
      ipureintro
      exact harg11.read_unread _
    isplitl [H10]
    · iexists _; isplitr
      swap; · iexact H10
      ipureintro
      exact harg12.read_unread _
    isplitl [H11]
    · iexists _; isplitr
      swap; · iexact H11
      ipureintro
      exact harg13.read_unread _
    isplitl [H12]
    · iexists _; isplitr
      swap; · iexact H12
      ipureintro
      exact harg14.read_unread _
    isplitl [H13]
    · iexists _; isplitr
      swap; · iexact H13
      ipureintro
      exact harg15.read_unread _
    isplitl [H16]
    · iexists _; isplitr
      swap; · iexact H16
      ipureintro
      exact harg16.read_unread _
    isplitl [H17]
    · iexists _; isplitr
      swap; · iexact H17
      ipureintro
      exact harg17.read_unread _
    isplitl [H18]
    · iexists _; isplitr
      swap; · iexact H18
      ipureintro
      exact harg18.read_unread _
    isplitl [H19]
    · iexists _; isplitr
      swap; · iexact H19
      ipureintro
      exact harg19.read_unread _
    isplitl [H20]
    · iexists _; isplitr
      swap; · iexact H20
      ipureintro
      refine (View.read_writes_full _ _ _ _ _).trans ?_
      refine expert_loaded ?_ ?_ ?_ ?_ ?_ ?_ ?_
      · exact (View.readAt_full _ _ _).trans (harg12.read_unread _)
      · exact (View.readAt_full _ _ _).trans (harg18.read_unread _)
      · exact (View.readAt_full _ _ _).trans (harg13.read_unread _)
      · exact (View.readAt_full _ _ _).trans (harg14.read_unread _)
      · exact (View.readAt_full _ _ _).trans (harg15.read_unread _)
      · first
        | exact (View.readAt_unit arg19.view (harg19.unread g) _ rfl inb_S1024x4_S1024x1_0_0).trans (by rw [harg19.read_unread]; rfl)
        | exact (View.readAt_unit arg19.view (harg19.unread g) _ rfl inb_S1024x4_S1024x1_0_1).trans (by rw [harg19.read_unread]; rfl)
        | exact (View.readAt_unit arg19.view (harg19.unread g) _ rfl inb_S1024x4_S1024x1_0_2).trans (by rw [harg19.read_unread]; rfl)
      · exact (View.readAt_full _ _ _).trans (harg20.read_unread _)
    iexists _; isplitr
    swap; · iexact H21
    ipureintro
    exact harg21.read_unread _)

end Cert.KernelIdeal.Gen

end
-- ==== Proof.RunEmit.lean ====
module

public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1024x768 .f32) (harg2 : arg2.IsWhole)
  (arg3 : Memref sig .tc .vmem S1x1024x768 .f32) (harg3 : arg3.IsWhole)
  (arg4 : Memref sig .tc .vmem S768x1536 .f32) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S768x4 .f32) (harg7 : arg7.IsWhole)
  (arg8 : Memref sig .tc .vmem S48x768 .f32) (harg8 : arg8.IsWhole)
  (arg9 : Memref sig .tc .vmem S1x48 .f32) (harg9 : arg9.IsWhole)
  (arg10 : Memref sig .tc .vmem S768x48 .f32) (harg10 : arg10.IsWhole)
  (arg11 : Memref sig .tc .vmem S1x768 .f32) (harg11 : arg11.IsWhole)
  (arg12 : Memref sig .tc .vmem S1x384x768 .f32) (harg12 : arg12.IsWhole)
  (arg13 : Memref sig .tc .vmem S1x1x384 .f32) (harg13 : arg13.IsWhole)
  (arg14 : Memref sig .tc .vmem S1x768x384 .f32) (harg14 : arg14.IsWhole)
  (arg15 : Memref sig .tc .vmem S1x1x768 .f32) (harg15 : arg15.IsWhole)
  (arg16 : Memref sig .tc .vmem S1x1024x768 .f32) (harg16 : arg16.IsWhole)
  (arg17 : Memref sig .tc .vmem S1x1 .f32) (harg17 : arg17.IsWhole)
  (arg18 : Memref sig .tc .vmem S1024x768 .bf16) (harg18 : arg18.IsWhole)
  (arg19 : Memref sig .tc .vmem S1024x4 .f32) (harg19 : arg19.IsWhole)
  (arg20 : Memref sig .tc .vmem S1024x768 .f32) (harg20 : arg20.IsWhole)
  (arg21 : Memref sig .tc .vmem S8x128 .f32) (harg21 : arg21.IsWhole)

set_option maxHeartbeats 4000000 in
/-- The last phase of a batch row that is not the last: the accumulator takes the expert and is written out. -/
theorem run_emit (e : Fin 4) (he : (i 1).val = e.val + 1) (h4 : (i 1).val = 4) (h0 : (i 0).val = 0)
    (x0 : Vec F S1x1024x768 .f32) (x1 : Vec F S1x1024x768 .f32) (x2 : Vec F S768x1536 .f32) (x3 : Vec F S1x768 .f32) (x4 : Vec F S1x768 .f32) (x5 : Vec F S768x4 .f32) (x6 : Vec F S48x768 .f32) (x7 : Vec F S1x48 .f32) (x8 : Vec F S768x48 .f32) (x9 : Vec F S1x768 .f32) (x10 : Vec F S1x384x768 .f32) (x11 : Vec F S1x1x384 .f32) (x12 : Vec F S1x768x384 .f32) (x13 : Vec F S1x1x768 .f32) (o15 : Vec F S1x1 .f32) (yb : Vec F S1024x768 .bf16) (g : Vec F S1024x4 .f32) (acc : Vec F S1024x768 .f32) (st : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare o15 ∗ owns (c : Thread nD τ) arg18 fullShare yb ∗ owns (c : Thread nD τ) arg19 fullShare g ∗ owns (c : Thread nD τ) arg20 fullShare acc ∗ owns (c : Thread nD τ) arg21 fullShare st
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay5 (expertAcc x10 x11 x12 x13 yb g acc e)) ∗ owns (c : Thread nD τ) arg17 fullShare o15 ∗ owns (c : Thread nD τ) arg18 fullShare yb ∗ owns (c : Thread nD τ) arg19 fullShare g ∗ owns (c : Thread nD τ) arg20 fullShare (expertAcc x10 x11 x12 x13 yb g acc e) ∗ owns (c : Thread nD τ) arg21 fullShare st) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have c1 : ¬ condFirst i := fun h => by have := (condFirst_iff i).mp h; omega
  have c2 : ¬ condGate i := fun h => by have := (condGate_iff i).mp h; omega
  have c3 : condExpert i := (condExpert_iff i).mpr (by omega)
  have c7 : condEmit i := (condEmit_iff i).mpr (by omega)
  have c8 : ¬ condLast i := fun h => by have := (condLast_iff i).mp h; omega
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d16, %f16, %hf16, H16⟩, ⟨%f17, %hf17, H17⟩, ⟨%f18, %hf18, H18⟩, ⟨%f19, %hf19, H19⟩, ⟨%f20, %hf20, H20⟩, ⟨%f21, %hf21, H21⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf17; obtain rfl := harg18.eq_unread hf18; obtain rfl := harg19.eq_unread hf19; obtain rfl := harg20.eq_unread hf20; obtain rfl := harg21.eq_unread hf21
  rcases switch_cases i e he with ⟨h4, rfl⟩ | ⟨h4, h5, rfl⟩ | ⟨h4, h5, h6, rfl⟩ | ⟨h4, h5, h6, rfl⟩
  on_goal 1 => (exfalso; have hv : (i 1).val = 1 := he; omega)
  on_goal 1 => (exfalso; have hv : (i 1).val = 2 := he; omega)
  on_goal 1 => (exfalso; have hv : (i 1).val = 3 := he; omega)
  all_goals (
    sl_exec (disch := first | sl_exact c1 | sl_exact c2 | sl_exact c3 | sl_exact c7 | sl_exact c8 | sl_exact h4 | sl_exact h5 | sl_exact h6)
    sl_step
    iapply Hk
    isplitl [H0]
    · iexists _; isplitr
      swap; · iexact H0
      ipureintro
      exact harg2.read_unread _
    isplitl [H1]
    · iexists _; isplitr
      swap; · iexact H1
      ipureintro
      exact harg3.read_unread _
    isplitl [H2]
    · iexists _; isplitr
      swap; · iexact H2
      ipureintro
      exact harg4.read_unread _
    isplitl [H3]
    · iexists _; isplitr
      swap; · iexact H3
      ipureintro
      exact harg5.read_unread _
    isplitl [H4]
    · iexists _; isplitr
      swap; · iexact H4
      ipureintro
      exact harg6.read_unread _
    isplitl [H5]
    · iexists _; isplitr
      swap; · iexact H5
      ipureintro
      exact harg7.read_unread _
    isplitl [H6]
    · iexists _; isplitr
      swap; · iexact H6
      ipureintro
      exact harg8.read_unread _
    isplitl [H7]
    · iexists _; isplitr
      swap; · iexact H7
      ipureintro
      exact harg9.read_unread _
    isplitl [H8]
    · iexists _; isplitr
      swap; · iexact H8
      ipureintro
      exact harg10.read_unread _
    isplitl [H9]
    · iexists _; isplitr
      swap; · iexact H9
      ipureintro
      exact harg11.read_unread _
    isplitl [H10]
    · iexists _; isplitr
      swap; · iexact H10
      ipureintro
      exact harg12.read_unread _
    isplitl [H11]
    · iexists _; isplitr
      swap; · iexact H11
      ipureintro
      exact harg13.read_unread _
    isplitl [H12]
    · iexists _; isplitr
      swap; · iexact H12
      ipureintro
      exact harg14.read_unread _
    isplitl [H13]
    · iexists _; isplitr
      swap; · iexact H13
      ipureintro
      exact harg15.read_unread _
    isplitl [H16]
    · iexists _; isplitr
      swap; · iexact H16
      ipureintro
      refine (View.read_writes_full _ _ _ _ _).trans ?_
      refine congrArg k0_pay5 ?_
      first
      | refine (View.readCov_full _ _ _ _ _).trans ?_
      | refine (View.readAt_writes_full _ _ _ _ _ _).trans ?_
      refine expert_loaded ?_ ?_ ?_ ?_ ?_ ?_ ?_
      · exact (View.readAt_full _ _ _).trans (harg12.read_unread _)
      · exact (View.readAt_full _ _ _).trans (harg18.read_unread _)
      · exact (View.readAt_full _ _ _).trans (harg13.read_unread _)
      · exact (View.readAt_full _ _ _).trans (harg14.read_unread _)
      · exact (View.readAt_full _ _ _).trans (harg15.read_unread _)
      · exact (View.readAt_unit arg19.view (harg19.unread g) _ rfl inb_S1024x4_S1024x1_0_3).trans (by rw [harg19.read_unread]; rfl)
      · exact (View.readAt_full _ _ _).trans (harg20.read_unread _)
    isplitl [H17]
    · iexists _; isplitr
      swap; · iexact H17
      ipureintro
      exact harg17.read_unread _
    isplitl [H18]
    · iexists _; isplitr
      swap; · iexact H18
      ipureintro
      exact harg18.read_unread _
    isplitl [H19]
    · iexists _; isplitr
      swap; · iexact H19
      ipureintro
      exact harg19.read_unread _
    isplitl [H20]
    · iexists _; isplitr
      swap; · iexact H20
      ipureintro
      refine (View.read_writes_full _ _ _ _ _).trans ?_
      refine expert_loaded ?_ ?_ ?_ ?_ ?_ ?_ ?_
      · exact (View.readAt_full _ _ _).trans (harg12.read_unread _)
      · exact (View.readAt_full _ _ _).trans (harg18.read_unread _)
      · exact (View.readAt_full _ _ _).trans (harg13.read_unread _)
      · exact (View.readAt_full _ _ _).trans (harg14.read_unread _)
      · exact (View.readAt_full _ _ _).trans (harg15.read_unread _)
      · exact (View.readAt_unit arg19.view (harg19.unread g) _ rfl inb_S1024x4_S1024x1_0_3).trans (by rw [harg19.read_unread]; rfl)
      · exact (View.readAt_full _ _ _).trans (harg20.read_unread _)
    iexists _; isplitr
    swap; · iexact H21
    ipureintro
    exact harg21.read_unread _)

end Cert.KernelIdeal.Gen

end
-- ==== Proof.RunLast.lean ====
module

public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1024x768 .f32) (harg2 : arg2.IsWhole)
  (arg3 : Memref sig .tc .vmem S1x1024x768 .f32) (harg3 : arg3.IsWhole)
  (arg4 : Memref sig .tc .vmem S768x1536 .f32) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S768x4 .f32) (harg7 : arg7.IsWhole)
  (arg8 : Memref sig .tc .vmem S48x768 .f32) (harg8 : arg8.IsWhole)
  (arg9 : Memref sig .tc .vmem S1x48 .f32) (harg9 : arg9.IsWhole)
  (arg10 : Memref sig .tc .vmem S768x48 .f32) (harg10 : arg10.IsWhole)
  (arg11 : Memref sig .tc .vmem S1x768 .f32) (harg11 : arg11.IsWhole)
  (arg12 : Memref sig .tc .vmem S1x384x768 .f32) (harg12 : arg12.IsWhole)
  (arg13 : Memref sig .tc .vmem S1x1x384 .f32) (harg13 : arg13.IsWhole)
  (arg14 : Memref sig .tc .vmem S1x768x384 .f32) (harg14 : arg14.IsWhole)
  (arg15 : Memref sig .tc .vmem S1x1x768 .f32) (harg15 : arg15.IsWhole)
  (arg16 : Memref sig .tc .vmem S1x1024x768 .f32) (harg16 : arg16.IsWhole)
  (arg17 : Memref sig .tc .vmem S1x1 .f32) (harg17 : arg17.IsWhole)
  (arg18 : Memref sig .tc .vmem S1024x768 .bf16) (harg18 : arg18.IsWhole)
  (arg19 : Memref sig .tc .vmem S1024x4 .f32) (harg19 : arg19.IsWhole)
  (arg20 : Memref sig .tc .vmem S1024x768 .f32) (harg20 : arg20.IsWhole)
  (arg21 : Memref sig .tc .vmem S8x128 .f32) (harg21 : arg21.IsWhole)

set_option maxHeartbeats 4000000 in
/-- The last point: the accumulator takes the expert and is written out, and so is the penalty. -/
theorem run_last (e : Fin 4) (he : (i 1).val = e.val + 1) (h4 : (i 1).val = 4) (h0 : (i 0).val = 1)
    (x0 : Vec F S1x1024x768 .f32) (x1 : Vec F S1x1024x768 .f32) (x2 : Vec F S768x1536 .f32) (x3 : Vec F S1x768 .f32) (x4 : Vec F S1x768 .f32) (x5 : Vec F S768x4 .f32) (x6 : Vec F S48x768 .f32) (x7 : Vec F S1x48 .f32) (x8 : Vec F S768x48 .f32) (x9 : Vec F S1x768 .f32) (x10 : Vec F S1x384x768 .f32) (x11 : Vec F S1x1x384 .f32) (x12 : Vec F S1x768x384 .f32) (x13 : Vec F S1x1x768 .f32) (yb : Vec F S1024x768 .bf16) (g : Vec F S1024x4 .f32) (acc : Vec F S1024x768 .f32) (st : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ (∃ d, owns (c : Thread nD τ) arg17 fullShare d) ∗ owns (c : Thread nD τ) arg18 fullShare yb ∗ owns (c : Thread nD τ) arg19 fullShare g ∗ owns (c : Thread nD τ) arg20 fullShare acc ∗ owns (c : Thread nD τ) arg21 fullShare st
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare (k0_pay5 (expertAcc x10 x11 x12 x13 yb g acc e)) ∗ owns (c : Thread nD τ) arg17 fullShare (auxOf st) ∗ owns (c : Thread nD τ) arg18 fullShare yb ∗ owns (c : Thread nD τ) arg19 fullShare g ∗ owns (c : Thread nD τ) arg20 fullShare (expertAcc x10 x11 x12 x13 yb g acc e) ∗ owns (c : Thread nD τ) arg21 fullShare st) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have c1 : ¬ condFirst i := fun h => by have := (condFirst_iff i).mp h; omega
  have c2 : ¬ condGate i := fun h => by have := (condGate_iff i).mp h; omega
  have c3 : condExpert i := (condExpert_iff i).mpr (by omega)
  have c7 : condEmit i := (condEmit_iff i).mpr (by omega)
  have c8 : condLast i := (condLast_iff i).mpr (by omega)
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d16, %f16, %hf16, H16⟩, ⟨%d17, %f17, %hf17, H17⟩, ⟨%f18, %hf18, H18⟩, ⟨%f19, %hf19, H19⟩, ⟨%f20, %hf20, H20⟩, ⟨%f21, %hf21, H21⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg18.eq_unread hf18; obtain rfl := harg19.eq_unread hf19; obtain rfl := harg20.eq_unread hf20; obtain rfl := harg21.eq_unread hf21
  rcases switch_cases i e he with ⟨h4, rfl⟩ | ⟨h4, h5, rfl⟩ | ⟨h4, h5, h6, rfl⟩ | ⟨h4, h5, h6, rfl⟩
  on_goal 1 => (exfalso; have hv : (i 1).val = 1 := he; omega)
  on_goal 1 => (exfalso; have hv : (i 1).val = 2 := he; omega)
  on_goal 1 => (exfalso; have hv : (i 1).val = 3 := he; omega)
  all_goals (
    sl_exec (disch := first | sl_exact c1 | sl_exact c2 | sl_exact c3 | sl_exact c7 | sl_exact c8 | sl_exact h4 | sl_exact h5 | sl_exact h6)
    sl_step
    iapply Hk
    isplitl [H0]
    · iexists _; isplitr
      swap; · iexact H0
      ipureintro
      exact harg2.read_unread _
    isplitl [H1]
    · iexists _; isplitr
      swap; · iexact H1
      ipureintro
      exact harg3.read_unread _
    isplitl [H2]
    · iexists _; isplitr
      swap; · iexact H2
      ipureintro
      exact harg4.read_unread _
    isplitl [H3]
    · iexists _; isplitr
      swap; · iexact H3
      ipureintro
      exact harg5.read_unread _
    isplitl [H4]
    · iexists _; isplitr
      swap; · iexact H4
      ipureintro
      exact harg6.read_unread _
    isplitl [H5]
    · iexists _; isplitr
      swap; · iexact H5
      ipureintro
      exact harg7.read_unread _
    isplitl [H6]
    · iexists _; isplitr
      swap; · iexact H6
      ipureintro
      exact harg8.read_unread _
    isplitl [H7]
    · iexists _; isplitr
      swap; · iexact H7
      ipureintro
      exact harg9.read_unread _
    isplitl [H8]
    · iexists _; isplitr
      swap; · iexact H8
      ipureintro
      exact harg10.read_unread _
    isplitl [H9]
    · iexists _; isplitr
      swap; · iexact H9
      ipureintro
      exact harg11.read_unread _
    isplitl [H10]
    · iexists _; isplitr
      swap; · iexact H10
      ipureintro
      exact harg12.read_unread _
    isplitl [H11]
    · iexists _; isplitr
      swap; · iexact H11
      ipureintro
      exact harg13.read_unread _
    isplitl [H12]
    · iexists _; isplitr
      swap; · iexact H12
      ipureintro
      exact harg14.read_unread _
    isplitl [H13]
    · iexists _; isplitr
      swap; · iexact H13
      ipureintro
      exact harg15.read_unread _
    isplitl [H16]
    · iexists _; isplitr
      swap; · iexact H16
      ipureintro
      refine (View.read_writes_full _ _ _ _ _).trans ?_
      refine congrArg k0_pay5 ?_
      first
      | refine (View.readCov_full _ _ _ _ _).trans ?_
      | refine (View.readAt_writes_full _ _ _ _ _ _).trans ?_
      refine expert_loaded ?_ ?_ ?_ ?_ ?_ ?_ ?_
      · exact (View.readAt_full _ _ _).trans (harg12.read_unread _)
      · exact (View.readAt_full _ _ _).trans (harg18.read_unread _)
      · exact (View.readAt_full _ _ _).trans (harg13.read_unread _)
      · exact (View.readAt_full _ _ _).trans (harg14.read_unread _)
      · exact (View.readAt_full _ _ _).trans (harg15.read_unread _)
      · exact (View.readAt_unit arg19.view (harg19.unread g) _ rfl inb_S1024x4_S1024x1_0_3).trans (by rw [harg19.read_unread]; rfl)
      · exact (View.readAt_full _ _ _).trans (harg20.read_unread _)
    isplitl [H17]
    · iexists _; isplitr
      swap; · iexact H17
      ipureintro
      refine (View.read_writes_full _ _ _ _ _).trans ?_
      unfold auxOf statRow0 statRow1
      rw [View.readAt_unit _ _ _ rfl inb_S8x128_S1x4_0_0, View.readAt_unit _ _ _ rfl inb_S8x128_S1x4_1_0, harg21.read_unread]
    isplitl [H18]
    · iexists _; isplitr
      swap; · iexact H18
      ipureintro
      exact harg18.read_unread _
    isplitl [H19]
    · iexists _; isplitr
      swap; · iexact H19
      ipureintro
      exact harg19.read_unread _
    isplitl [H20]
    · iexists _; isplitr
      swap; · iexact H20
      ipureintro
      refine (View.read_writes_full _ _ _ _ _).trans ?_
      refine expert_loaded ?_ ?_ ?_ ?_ ?_ ?_ ?_
      · exact (View.readAt_full _ _ _).trans (harg12.read_unread _)
      · exact (View.readAt_full _ _ _).trans (harg18.read_unread _)
      · exact (View.readAt_full _ _ _).trans (harg13.read_unread _)
      · exact (View.readAt_full _ _ _).trans (harg14.read_unread _)
      · exact (View.readAt_full _ _ _).trans (harg15.read_unread _)
      · exact (View.readAt_unit arg19.view (harg19.unread g) _ rfl inb_S1024x4_S1024x1_0_3).trans (by rw [harg19.read_unread]; rfl)
      · exact (View.readAt_full _ _ _).trans (harg20.read_unread _)
    iexists _; isplitr
    swap; · iexact H21
    ipureintro
    exact harg21.read_unread _)

end Cert.KernelIdeal.Gen

end
-- ==== Proof.RunGate.lean ====
module

public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1024x768 .f32) (harg2 : arg2.IsWhole)
  (arg3 : Memref sig .tc .vmem S1x1024x768 .f32) (harg3 : arg3.IsWhole)
  (arg4 : Memref sig .tc .vmem S768x1536 .f32) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S768x4 .f32) (harg7 : arg7.IsWhole)
  (arg8 : Memref sig .tc .vmem S48x768 .f32) (harg8 : arg8.IsWhole)
  (arg9 : Memref sig .tc .vmem S1x48 .f32) (harg9 : arg9.IsWhole)
  (arg10 : Memref sig .tc .vmem S768x48 .f32) (harg10 : arg10.IsWhole)
  (arg11 : Memref sig .tc .vmem S1x768 .f32) (harg11 : arg11.IsWhole)
  (arg12 : Memref sig .tc .vmem S1x384x768 .f32) (harg12 : arg12.IsWhole)
  (arg13 : Memref sig .tc .vmem S1x1x384 .f32) (harg13 : arg13.IsWhole)
  (arg14 : Memref sig .tc .vmem S1x768x384 .f32) (harg14 : arg14.IsWhole)
  (arg15 : Memref sig .tc .vmem S1x1x768 .f32) (harg15 : arg15.IsWhole)
  (arg16 : Memref sig .tc .vmem S1x1024x768 .f32) (harg16 : arg16.IsWhole)
  (arg17 : Memref sig .tc .vmem S1x1 .f32) (harg17 : arg17.IsWhole)
  (arg18 : Memref sig .tc .vmem S1024x768 .bf16) (harg18 : arg18.IsWhole)
  (arg19 : Memref sig .tc .vmem S1024x4 .f32) (harg19 : arg19.IsWhole)
  (arg20 : Memref sig .tc .vmem S1024x768 .f32) (harg20 : arg20.IsWhole)
  (arg21 : Memref sig .tc .vmem S8x128 .f32) (harg21 : arg21.IsWhole)

set_option maxHeartbeats 4000000 in
/-- Phase 0 of a batch row that is not the first: the features, the gates, the fused image, and the statistics over what they were. -/
theorem run_gate (h1 : (i 1).val = 0) (h0 : (i 0).val ≠ 0)
    (x0 : Vec F S1x1024x768 .f32) (x1 : Vec F S1x1024x768 .f32) (x2 : Vec F S768x1536 .f32) (x3 : Vec F S1x768 .f32) (x4 : Vec F S1x768 .f32) (x5 : Vec F S768x4 .f32) (x6 : Vec F S48x768 .f32) (x7 : Vec F S1x48 .f32) (x8 : Vec F S768x48 .f32) (x9 : Vec F S1x768 .f32) (x10 : Vec F S1x384x768 .f32) (x11 : Vec F S1x1x384 .f32) (x12 : Vec F S1x768x384 .f32) (x13 : Vec F S1x1x768 .f32) (o14 : Vec F S1x1024x768 .f32) (o15 : Vec F S1x1 .f32) (st : Vec F S8x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare o14 ∗ owns (c : Thread nD τ) arg17 fullShare o15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare st
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare o14 ∗ owns (c : Thread nD τ) arg17 fullShare o15 ∗ owns (c : Thread nD τ) arg18 fullShare (featOf x0 x1 x2 x3 x4) ∗ owns (c : Thread nD τ) arg19 fullShare (gatesStored x0 x1 x2 x3 x4 x5) ∗ owns (c : Thread nD τ) arg20 fullShare (fusedOf x0 x1 x6 x7 x8 x9) ∗ owns (c : Thread nD τ) arg21 fullShare (statOf x0 x1 x2 x3 x4 x5 st)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have c1 : ¬ condFirst i := fun h => by have := (condFirst_iff i).mp h; omega
  have c2 : condGate i := (condGate_iff i).mpr (by omega)
  have c3 : ¬ condExpert i := fun h => by have := (condExpert_iff i).mp h; omega
  have c7 : ¬ condEmit i := fun h => by have := (condEmit_iff i).mp h; omega
  have c8 : ¬ condLast i := fun h => by have := (condLast_iff i).mp h; omega
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f16, %hf16, H16⟩, ⟨%f17, %hf17, H17⟩, ⟨%d18, %f18, %hf18, H18⟩, ⟨%d19, %f19, %hf19, H19⟩, ⟨%d20, %f20, %hf20, H20⟩, ⟨%f21, %hf21, H21⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf16; obtain rfl := harg17.eq_unread hf17; obtain rfl := harg21.eq_unread hf21
  sl_exec (disch := first | sl_exact c1 | sl_exact c2 | sl_exact c3 | sl_exact c7 | sl_exact c8)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    exact harg15.read_unread _
  isplitl [H16]
  · iexists _; isplitr
    swap; · iexact H16
    ipureintro
    exact harg16.read_unread _
  isplitl [H17]
  · iexists _; isplitr
    swap; · iexact H17
    ipureintro
    exact harg17.read_unread _
  isplitl [H18]
  · iexists _; isplitr
    swap; · iexact H18
    ipureintro
    refine (View.read_writes_full _ _ _ _ _).trans ?_
    refine feat_loaded ?_ ?_ ?_ ?_ ?_ ?_
    · exact (View.readAt_full _ _ _).trans (harg2.read_unread _)
    · exact (View.readAt_full _ _ _).trans (harg3.read_unread _)
    · exact (View.readAt_unit _ _ _ rfl inb_S768x1536_S768x768_0_0).trans (by rw [harg4.read_unread])
    · exact (View.readAt_unit _ _ _ rfl inb_S768x1536_S768x768_0_768).trans (by rw [harg4.read_unread])
    · exact (View.readAt_full _ _ _).trans (harg5.read_unread _)
    · exact (View.readAt_full _ _ _).trans (harg6.read_unread _)
  isplitl [H19]
  · iexists _; isplitr
    swap; · iexact H19
    ipureintro
    refine (View.read_writes_full _ _ _ _ _).trans ?_
    refine gatesStored_loaded ?_ ?_ ?_ ?_ ?_ ?_ ?_
    · exact (View.readAt_full _ _ _).trans (harg2.read_unread _)
    · exact (View.readAt_full _ _ _).trans (harg3.read_unread _)
    · exact (View.readAt_unit _ _ _ rfl inb_S768x1536_S768x768_0_0).trans (by rw [harg4.read_unread])
    · exact (View.readAt_unit _ _ _ rfl inb_S768x1536_S768x768_0_768).trans (by rw [harg4.read_unread])
    · exact (View.readAt_full _ _ _).trans (harg5.read_unread _)
    · exact (View.readAt_full _ _ _).trans (harg6.read_unread _)
    · exact (View.readAt_full _ _ _).trans (harg7.read_unread _)
  isplitl [H20]
  · iexists _; isplitr
    swap; · iexact H20
    ipureintro
    refine (View.read_writes_full _ _ _ _ _).trans ?_
    refine fused_loaded ?_ ?_ ?_ ?_ ?_ ?_
    · exact (View.readAt_full _ _ _).trans (harg2.read_unread _)
    · exact (View.readAt_full _ _ _).trans (harg3.read_unread _)
    · exact (View.readAt_full _ _ _).trans (harg8.read_unread _)
    · exact (View.readAt_full _ _ _).trans (harg9.read_unread _)
    · exact (View.readAt_full _ _ _).trans (harg10.read_unread _)
    · exact (View.readAt_full _ _ _).trans (harg11.read_unread _)
  iexists _; isplitr
  swap; · iexact H21
  ipureintro
  refine (View.read_writes_cons_put _ _ _ _ _ rfl).trans ?_
  refine (congrArg (fun z => VecWindow.put z _ _ _) (View.read_writes_cons_put _ _ _ _ _ rfl)).trans ?_
  rw [View.writes_nil, harg21.read_unread]
  refine stat_loaded ?_ ?_ ?_ ?_ ?_ ?_ ?_ ?_ ?_
  · exact (View.readAt_full _ _ _).trans (harg2.read_unread _)
  · exact (View.readAt_full _ _ _).trans (harg3.read_unread _)
  · exact (View.readAt_unit _ _ _ rfl inb_S768x1536_S768x768_0_0).trans (by rw [harg4.read_unread])
  · exact (View.readAt_unit _ _ _ rfl inb_S768x1536_S768x768_0_768).trans (by rw [harg4.read_unread])
  · exact (View.readAt_full _ _ _).trans (harg5.read_unread _)
  · exact (View.readAt_full _ _ _).trans (harg6.read_unread _)
  · exact (View.readAt_full _ _ _).trans (harg7.read_unread _)
  · exact (View.readAt_unit _ _ _ rfl inb_S8x128_S1x4_0_0).trans (by rw [harg21.read_unread])
  · exact (View.readAt_unit _ _ _ rfl inb_S8x128_S1x4_1_0).trans (by rw [harg21.read_unread])

end Cert.KernelIdeal.Gen

end
-- ==== Proof.RunFirst.lean ====
module

public import proofs.«01_k».proof.Proof.Steps

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords)
  (arg2 : Memref sig .tc .vmem S1x1024x768 .f32) (harg2 : arg2.IsWhole)
  (arg3 : Memref sig .tc .vmem S1x1024x768 .f32) (harg3 : arg3.IsWhole)
  (arg4 : Memref sig .tc .vmem S768x1536 .f32) (harg4 : arg4.IsWhole)
  (arg5 : Memref sig .tc .vmem S1x768 .f32) (harg5 : arg5.IsWhole)
  (arg6 : Memref sig .tc .vmem S1x768 .f32) (harg6 : arg6.IsWhole)
  (arg7 : Memref sig .tc .vmem S768x4 .f32) (harg7 : arg7.IsWhole)
  (arg8 : Memref sig .tc .vmem S48x768 .f32) (harg8 : arg8.IsWhole)
  (arg9 : Memref sig .tc .vmem S1x48 .f32) (harg9 : arg9.IsWhole)
  (arg10 : Memref sig .tc .vmem S768x48 .f32) (harg10 : arg10.IsWhole)
  (arg11 : Memref sig .tc .vmem S1x768 .f32) (harg11 : arg11.IsWhole)
  (arg12 : Memref sig .tc .vmem S1x384x768 .f32) (harg12 : arg12.IsWhole)
  (arg13 : Memref sig .tc .vmem S1x1x384 .f32) (harg13 : arg13.IsWhole)
  (arg14 : Memref sig .tc .vmem S1x768x384 .f32) (harg14 : arg14.IsWhole)
  (arg15 : Memref sig .tc .vmem S1x1x768 .f32) (harg15 : arg15.IsWhole)
  (arg16 : Memref sig .tc .vmem S1x1024x768 .f32) (harg16 : arg16.IsWhole)
  (arg17 : Memref sig .tc .vmem S1x1 .f32) (harg17 : arg17.IsWhole)
  (arg18 : Memref sig .tc .vmem S1024x768 .bf16) (harg18 : arg18.IsWhole)
  (arg19 : Memref sig .tc .vmem S1024x4 .f32) (harg19 : arg19.IsWhole)
  (arg20 : Memref sig .tc .vmem S1024x768 .f32) (harg20 : arg20.IsWhole)
  (arg21 : Memref sig .tc .vmem S8x128 .f32) (harg21 : arg21.IsWhole)

set_option maxHeartbeats 4000000 in
/-- The first point: the statistics start at zero. -/
theorem run_first (h1 : (i 1).val = 0) (h0 : (i 0).val = 0)
    (x0 : Vec F S1x1024x768 .f32) (x1 : Vec F S1x1024x768 .f32) (x2 : Vec F S768x1536 .f32) (x3 : Vec F S1x768 .f32) (x4 : Vec F S1x768 .f32) (x5 : Vec F S768x4 .f32) (x6 : Vec F S48x768 .f32) (x7 : Vec F S1x48 .f32) (x8 : Vec F S768x48 .f32) (x9 : Vec F S1x768 .f32) (x10 : Vec F S1x384x768 .f32) (x11 : Vec F S1x1x384 .f32) (x12 : Vec F S1x768x384 .f32) (x13 : Vec F S1x1x768 .f32) (o14 : Vec F S1x1024x768 .f32) (o15 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare o14 ∗ owns (c : Thread nD τ) arg17 fullShare o15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare o14 ∗ owns (c : Thread nD τ) arg17 fullShare o15 ∗ owns (c : Thread nD τ) arg18 fullShare (featOf x0 x1 x2 x3 x4) ∗ owns (c : Thread nD τ) arg19 fullShare (gatesStored x0 x1 x2 x3 x4 x5) ∗ owns (c : Thread nD τ) arg20 fullShare (fusedOf x0 x1 x6 x7 x8 x9) ∗ owns (c : Thread nD τ) arg21 fullShare (statOf x0 x1 x2 x3 x4 x5 k0_pay1)) -∗ K ⟨⟩))
      ⊢ wp frame (wpE (defs₀ (F := F)) Variants.none c none) E (cc0__fused_kernel i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  have c1 : condFirst i := (condFirst_iff i).mpr (by omega)
  have c2 : condGate i := (condGate_iff i).mpr (by omega)
  have c3 : ¬ condExpert i := fun h => by have := (condExpert_iff i).mp h; omega
  have c7 : ¬ condEmit i := fun h => by have := (condEmit_iff i).mp h; omega
  have c8 : ¬ condLast i := fun h => by have := (condLast_iff i).mp h; omega
  simp only [cc0__fused_kernel_eq_skeleton]; unfold cc0__fused_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f16, %hf16, H16⟩, ⟨%f17, %hf17, H17⟩, ⟨%d18, %f18, %hf18, H18⟩, ⟨%d19, %f19, %hf19, H19⟩, ⟨%d20, %f20, %hf20, H20⟩, ⟨%d21, %f21, %hf21, H21⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf16; obtain rfl := harg17.eq_unread hf17
  sl_exec (disch := first | sl_exact c1 | sl_exact c2 | sl_exact c3 | sl_exact c7 | sl_exact c8)
  sl_step
  iapply Hk
  isplitl [H0]
  · iexists _; isplitr
    swap; · iexact H0
    ipureintro
    exact harg2.read_unread _
  isplitl [H1]
  · iexists _; isplitr
    swap; · iexact H1
    ipureintro
    exact harg3.read_unread _
  isplitl [H2]
  · iexists _; isplitr
    swap; · iexact H2
    ipureintro
    exact harg4.read_unread _
  isplitl [H3]
  · iexists _; isplitr
    swap; · iexact H3
    ipureintro
    exact harg5.read_unread _
  isplitl [H4]
  · iexists _; isplitr
    swap; · iexact H4
    ipureintro
    exact harg6.read_unread _
  isplitl [H5]
  · iexists _; isplitr
    swap; · iexact H5
    ipureintro
    exact harg7.read_unread _
  isplitl [H6]
  · iexists _; isplitr
    swap; · iexact H6
    ipureintro
    exact harg8.read_unread _
  isplitl [H7]
  · iexists _; isplitr
    swap; · iexact H7
    ipureintro
    exact harg9.read_unread _
  isplitl [H8]
  · iexists _; isplitr
    swap; · iexact H8
    ipureintro
    exact harg10.read_unread _
  isplitl [H9]
  · iexists _; isplitr
    swap; · iexact H9
    ipureintro
    exact harg11.read_unread _
  isplitl [H10]
  · iexists _; isplitr
    swap; · iexact H10
    ipureintro
    exact harg12.read_unread _
  isplitl [H11]
  · iexists _; isplitr
    swap; · iexact H11
    ipureintro
    exact harg13.read_unread _
  isplitl [H12]
  · iexists _; isplitr
    swap; · iexact H12
    ipureintro
    exact harg14.read_unread _
  isplitl [H13]
  · iexists _; isplitr
    swap; · iexact H13
    ipureintro
    exact harg15.read_unread _
  isplitl [H16]
  · iexists _; isplitr
    swap; · iexact H16
    ipureintro
    exact harg16.read_unread _
  isplitl [H17]
  · iexists _; isplitr
    swap; · iexact H17
    ipureintro
    exact harg17.read_unread _
  isplitl [H18]
  · iexists _; isplitr
    swap; · iexact H18
    ipureintro
    refine (View.read_writes_full _ _ _ _ _).trans ?_
    refine feat_loaded ?_ ?_ ?_ ?_ ?_ ?_
    · exact (View.readAt_full _ _ _).trans (harg2.read_unread _)
    · exact (View.readAt_full _ _ _).trans (harg3.read_unread _)
    · exact (View.readAt_unit _ _ _ rfl inb_S768x1536_S768x768_0_0).trans (by rw [harg4.read_unread])
    · exact (View.readAt_unit _ _ _ rfl inb_S768x1536_S768x768_0_768).trans (by rw [harg4.read_unread])
    · exact (View.readAt_full _ _ _).trans (harg5.read_unread _)
    · exact (View.readAt_full _ _ _).trans (harg6.read_unread _)
  isplitl [H19]
  · iexists _; isplitr
    swap; · iexact H19
    ipureintro
    refine (View.read_writes_full _ _ _ _ _).trans ?_
    refine gatesStored_loaded ?_ ?_ ?_ ?_ ?_ ?_ ?_
    · exact (View.readAt_full _ _ _).trans (harg2.read_unread _)
    · exact (View.readAt_full _ _ _).trans (harg3.read_unread _)
    · exact (View.readAt_unit _ _ _ rfl inb_S768x1536_S768x768_0_0).trans (by rw [harg4.read_unread])
    · exact (View.readAt_unit _ _ _ rfl inb_S768x1536_S768x768_0_768).trans (by rw [harg4.read_unread])
    · exact (View.readAt_full _ _ _).trans (harg5.read_unread _)
    · exact (View.readAt_full _ _ _).trans (harg6.read_unread _)
    · exact (View.readAt_full _ _ _).trans (harg7.read_unread _)
  isplitl [H20]
  · iexists _; isplitr
    swap; · iexact H20
    ipureintro
    refine (View.read_writes_full _ _ _ _ _).trans ?_
    refine fused_loaded ?_ ?_ ?_ ?_ ?_ ?_
    · exact (View.readAt_full _ _ _).trans (harg2.read_unread _)
    · exact (View.readAt_full _ _ _).trans (harg3.read_unread _)
    · exact (View.readAt_full _ _ _).trans (harg8.read_unread _)
    · exact (View.readAt_full _ _ _).trans (harg9.read_unread _)
    · exact (View.readAt_full _ _ _).trans (harg10.read_unread _)
    · exact (View.readAt_full _ _ _).trans (harg11.read_unread _)
  iexists _; isplitr
  swap; · iexact H21
  ipureintro
  refine (View.read_writes_cons_put _ _ _ _ _ rfl).trans ?_
  refine (congrArg (fun z => VecWindow.put z _ _ _) (View.read_writes_cons_put _ _ _ _ _ rfl)).trans ?_
  refine (congrArg (fun z => VecWindow.put (VecWindow.put z _ _ _) _ _ _) (View.read_writes_full _ _ _ _ _)).trans ?_
  refine stat_loaded ?_ ?_ ?_ ?_ ?_ ?_ ?_ ?_ ?_
  · exact (View.readAt_full _ _ _).trans (harg2.read_unread _)
  · exact (View.readAt_full _ _ _).trans (harg3.read_unread _)
  · exact (View.readAt_unit _ _ _ rfl inb_S768x1536_S768x768_0_0).trans (by rw [harg4.read_unread])
  · exact (View.readAt_unit _ _ _ rfl inb_S768x1536_S768x768_0_768).trans (by rw [harg4.read_unread])
  · exact (View.readAt_full _ _ _).trans (harg5.read_unread _)
  · exact (View.readAt_full _ _ _).trans (harg6.read_unread _)
  · exact (View.readAt_full _ _ _).trans (harg7.read_unread _)
  · refine (View.readAt_unit arg21.view _ _ rfl inb_S8x128_S1x4_0_0).trans ?_
    exact congrArg statRow0 (View.read_writes_full _ _ _ _ _)
  · refine (View.readAt_unit arg21.view _ _ rfl inb_S8x128_S1x4_1_0).trans ?_
    refine (congrArg statRow1 ((View.read_writes_cons_put _ _ _ _ _ rfl).trans (congrArg (fun z => VecWindow.put z _ _ _) (View.read_writes_full _ _ _ _ _)))).trans ?_
    exact VecWindow.window_put_of_disjoint _ _ _ _ _ _ _ 0 (by decide)

end Cert.KernelIdeal.Gen

end
-- ==== Proof.Launched.lean ====
module

public import proofs.«01_k».proof.Proof.RunMid
public import proofs.«01_k».proof.Proof.RunEmit
public import proofs.«01_k».proof.Proof.RunLast
public import proofs.«01_k».proof.Proof.RunGate
public import proofs.«01_k».proof.Proof.RunFirst
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: what every buffer holds after each point, and the frame

The four buffers the kernel keeps between points are carried as whole contents. -/

/-- The coordinates of point `t`: batch row `t / 5`, phase `t % 5`. -/
theorem coord0 (t : Fin cfg0.N) : (grid0.coords t 0).val = t.val / 5 := by
  have ht : t.val < 10 := Nat.lt_of_lt_of_eq t.isLt N_0
  have e0 : (grid0.coords t 0).val = t.val / 5 % 2 := Pipeline.Grid.coords_val t 0 (by decide) rfl
  omega
theorem coord1 (t : Fin cfg0.N) : (grid0.coords t 1).val = t.val % 5 := by
  have e1 : (grid0.coords t 1).val = t.val / 1 % 5 := Pipeline.Grid.coords_val t 1 (by decide) rfl
  omega

/-- What the kernel keeps between points: features, gates, accumulator, statistics. -/
abbrev Carry (F : FTy → Type) [FloatOps F] := Vec F S1024x768 .bf16 × Vec F S1024x4 .f32 × Vec F S1024x768 .f32 × Vec F S8x128 .f32

/-- The state after phase 0 at point `t`, the statistics having been `st`. -/
def gateStep (c : Dev nD) (t : Fin cfg0.N) (st : Vec F S8x128 .f32) : Carry F :=
  (featOf (iblk m c 0 t) (iblk m c 1 t) (iblk m c 2 t) (iblk m c 3 t) (iblk m c 4 t), gatesStored (iblk m c 0 t) (iblk m c 1 t) (iblk m c 2 t) (iblk m c 3 t) (iblk m c 4 t) (iblk m c 5 t),
    fusedOf (iblk m c 0 t) (iblk m c 1 t) (iblk m c 6 t) (iblk m c 7 t) (iblk m c 8 t) (iblk m c 9 t), statOf (iblk m c 0 t) (iblk m c 1 t) (iblk m c 2 t) (iblk m c 3 t) (iblk m c 4 t) (iblk m c 5 t) st)

/-- The state after expert `e` at point `t`. -/
def expertStep (c : Dev nD) (t : Fin cfg0.N) (e : Fin 4) (s : Carry F) : Carry F :=
  (s.1, s.2.1, expertAcc (iblk m c 10 t) (iblk m c 11 t) (iblk m c 12 t) (iblk m c 13 t) s.1 s.2.1 s.2.2.1 e, s.2.2.2)

/-- The expert of point `n`. -/
def expertIdx (n : ℕ) : Fin 4 := ⟨n % 5 - 1, by omega⟩

/-- The state after point `n`. -/
def carryAt (c : Dev nD) : (n : ℕ) → n < cfg0.N → Carry F
  | 0, hn => gateStep m c ⟨0, hn⟩ k0_pay1
  | n + 1, hn =>
    if (n + 1) % 5 = 0 then gateStep m c ⟨n + 1, hn⟩ (carryAt c n (Nat.lt_of_succ_lt hn)).2.2.2
    else expertStep m c ⟨n + 1, hn⟩ (expertIdx (n + 1)) (carryAt c n (Nat.lt_of_succ_lt hn))

theorem carryAt_first (c : Dev nD) (t : Fin cfg0.N) (hz : t.val = 0) : carryAt m c t.val t.isLt = gateStep m c t k0_pay1 := by
  obtain ⟨n, hn⟩ := t; cases n with
  | zero => rfl
  | succ n => exact absurd hz (Nat.succ_ne_zero n)

theorem carryAt_gate (c : Dev nD) (t : Fin cfg0.N) (hz : t.val ≠ 0) (h : t.val % 5 = 0) :
    carryAt m c t.val t.isLt = gateStep m c t (carryAt m c (t.val - 1) (Nat.lt_of_le_of_lt (Nat.sub_le _ _) t.isLt)).2.2.2 := by
  obtain ⟨n, hn⟩ := t; cases n with
  | zero => exact absurd rfl hz
  | succ n => exact if_pos h

theorem carryAt_expert (c : Dev nD) (t : Fin cfg0.N) (h : t.val % 5 ≠ 0) :
    carryAt m c t.val t.isLt = expertStep m c t (expertIdx t.val) (carryAt m c (t.val - 1) (Nat.lt_of_le_of_lt (Nat.sub_le _ _) t.isLt)) := by
  obtain ⟨n, hn⟩ := t; cases n with
  | zero => exact absurd rfl h
  | succ n => exact if_neg h

/-! ## The windows the body leaves idle -/

theorem idle14 (t : Fin cfg0.N) (h : t.val % 5 ≠ 4) : cfg0.idle 14 (grid0.coords t) = true :=
  (by decide +kernel : ∀ t : Fin cfg0.N, t.val % 5 ≠ 4 → cfg0.idle 14 (grid0.coords t) = true) t h
theorem live14 (t : Fin cfg0.N) (h : t.val % 5 = 4) : cfg0.idle 14 (grid0.coords t) = false :=
  (by decide +kernel : ∀ t : Fin cfg0.N, t.val % 5 = 4 → cfg0.idle 14 (grid0.coords t) = false) t h
theorem noFlush14 (t : Fin cfg0.N) (h : t.val % 5 ≠ 4) : (cfg0.win 14).flush t = false :=
  (by decide +kernel : ∀ t : Fin cfg0.N, t.val % 5 ≠ 4 → (cfg0.win 14).flush t = false) t h
theorem idle15 (t : Fin cfg0.N) (h : t.val ≠ 9) : cfg0.idle 15 (grid0.coords t) = true :=
  (by decide +kernel : ∀ t : Fin cfg0.N, t.val ≠ 9 → cfg0.idle 15 (grid0.coords t) = true) t h
theorem live15 (t : Fin cfg0.N) (h : t.val = 9) : cfg0.idle 15 (grid0.coords t) = false :=
  (by decide +kernel : ∀ t : Fin cfg0.N, t.val = 9 → cfg0.idle 15 (grid0.coords t) = false) t h
theorem noFlush15 (t : Fin cfg0.N) (h : t.val ≠ 9) : (cfg0.win 15).flush t = false :=
  (by decide +kernel : ∀ t : Fin cfg0.N, t.val ≠ 9 → (cfg0.win 15).flush t = false) t h

/-! ## The proof data -/

/-- The kernel's own buffers. -/
abbrev featBuf : Memref sig .tc .vmem S1024x768 .bf16 := Memref.whole cc0_scratch0
abbrev gateBuf : Memref sig .tc .vmem S1024x4 .f32 := Memref.whole cc0_scratch1
abbrev accBuf : Memref sig .tc .vmem S1024x768 .f32 := Memref.whole cc0_scratch2
abbrev statBuf : Memref sig .tc .vmem S8x128 .f32 := Memref.whole cc0_scratch3

/-- The kernel's own buffers at the state `s`, and the generator register at some state. -/
def held (c : Dev nD) (s : Carry F) : sProp 𝕄 :=
  iprop(iprop(owns (c : Thread nD τ) featBuf fullShare s.1 ∗ owns (c : Thread nD τ) gateBuf fullShare s.2.1
    ∗ owns (c : Thread nD τ) accBuf fullShare s.2.2.1 ∗ owns (c : Thread nD τ) statBuf fullShare s.2.2.2) ∗ (∃ r, prngReg c r))

/-- The region's rest, with the kernel's own buffers at some contents. -/
theorem rest_eq (c : Dev nD) :
    (Pipeline.ΦA spec0 c : sProp 𝕄)
      = iprop(iprop((∃ d, owns (c : Thread nD τ) featBuf fullShare d) ∗ (∃ d, owns (c : Thread nD τ) gateBuf fullShare d)
        ∗ (∃ d, owns (c : Thread nD τ) accBuf fullShare d) ∗ (∃ d, owns (c : Thread nD τ) statBuf fullShare d)) ∗ (∃ r, prngReg c r)) := by
  unfold Pipeline.ΦA; rw [scopedRest0_eq]; simp only [featBuf, gateBuf, accBuf, statBuf, owns_whole]; try rfl

/-- The invariant before point `n`. -/
def inv (c : Dev nD) : (n : ℕ) → n ≤ cfg0.N → sProp 𝕄
  | 0, _ => Pipeline.ΦA spec0 c
  | n + 1, hn => held c (carryAt m c n hn)

theorem inv_zero (c : Dev nD) (n : ℕ) (h : n ≤ cfg0.N) (hz : n = 0) : inv m c n h = Pipeline.ΦA spec0 c := by
  subst hz; rfl

theorem inv_pos (c : Dev nD) (n : ℕ) (h : n ≤ cfg0.N) (hz : n ≠ 0) :
    inv m c n h = held c (carryAt m c (n - 1) (by omega)) := by
  cases n with
  | zero => exact absurd rfl hz
  | succ n => rfl

/-- The proof data of the pipeline: inputs stay at their blocks; the first output's buffer holds the accumulator, the
    second's the penalty of the statistics, wherever the body stores into them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => k0_pay5 (carryAt m c t.val t.isLt).2.2.1
    | ⟨15, _⟩ => auxOf (carryAt m c t.val t.isLt).2.2.2
    | ⟨_ + 16, h⟩ => absurd h (Nat.not_lt.2 (Nat.le_add_left _ _))
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) : (dats m 0 c).Φ t.castSucc = inv m c t.val (Nat.le_of_lt t.isLt) := by
  dsimp only [dats]; exact Pipeline.Dat.Φ_castSucc (inv m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = k0_pay5 (carryAt m c t.val t.isLt).2.2.1 := by dsimp only [dats]
theorem after_15 (c : Dev nD) (t : Fin cfg0.N) : (dats m 0 c).after 15 t = auxOf (carryAt m c t.val t.isLt).2.2.2 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d
theorem before_6 (c : Dev nD) (t : Fin cfg0.N) (d) : (dats m 0 c).before 6 t d = iblk m c 6 t := before0_6_of m (dats m 0 c) (A_eq m c 6) (after_6 m c) t d
theorem before_7 (c : Dev nD) (t : Fin cfg0.N) (d) : (dats m 0 c).before 7 t d = iblk m c 7 t := before0_7_of m (dats m 0 c) (A_eq m c 7) (after_7 m c) t d
theorem before_8 (c : Dev nD) (t : Fin cfg0.N) (d) : (dats m 0 c).before 8 t d = iblk m c 8 t := before0_8_of m (dats m 0 c) (A_eq m c 8) (after_8 m c) t d
theorem before_9 (c : Dev nD) (t : Fin cfg0.N) (d) : (dats m 0 c).before 9 t d = iblk m c 9 t := before0_9_of m (dats m 0 c) (A_eq m c 9) (after_9 m c) t d
theorem before_10 (c : Dev nD) (t : Fin cfg0.N) (d) : (dats m 0 c).before 10 t d = iblk m c 10 t := before0_10_of m (dats m 0 c) (A_eq m c 10) (after_10 m c) t d
theorem before_11 (c : Dev nD) (t : Fin cfg0.N) (d) : (dats m 0 c).before 11 t d = iblk m c 11 t := before0_11_of m (dats m 0 c) (A_eq m c 11) (after_11 m c) t d
theorem before_12 (c : Dev nD) (t : Fin cfg0.N) (d) : (dats m 0 c).before 12 t d = iblk m c 12 t := before0_12_of m (dats m 0 c) (A_eq m c 12) (after_12 m c) t d
theorem before_13 (c : Dev nD) (t : Fin cfg0.N) (d) : (dats m 0 c).before 13 t d = iblk m c 13 t := before0_13_of m (dats m 0 c) (A_eq m c 13) (after_13 m c) t d
theorem leaves_0 (c : Dev nD) (t : Fin cfg0.N) : (dats m 0 c).leavesExact 0 t = owns (c : Thread nD τ) (st0_0 t) fullShare (iblk m c 0 t) := by unfold Dat.leavesExact; rw [show cfg0.idle 0 (grid0.coords t) = false from rfl, after_0]
theorem leaves_1 (c : Dev nD) (t : Fin cfg0.N) : (dats m 0 c).leavesExact 1 t = owns (c : Thread nD τ) (st0_1 t) fullShare (iblk m c 1 t) := by unfold Dat.leavesExact; rw [show cfg0.idle 1 (grid0.coords t) = false from rfl, after_1]
theorem leaves_2 (c : Dev nD) (t : Fin cfg0.N) : (dats m 0 c).leavesExact 2 t = owns (c : Thread nD τ) (st0_2 t) fullShare (iblk m c 2 t) := by unfold Dat.leavesExact; rw [show cfg0.idle 2 (grid0.coords t) = false from rfl, after_2]
theorem leaves_3 (c : Dev nD) (t : Fin cfg0.N) : (dats m 0 c).leavesExact 3 t = owns (c : Thread nD τ) (st0_3 t) fullShare (iblk m c 3 t) := by unfold Dat.leavesExact; rw [show cfg0.idle 3 (grid0.coords t) = false from rfl, after_3]
theorem leaves_4 (c : Dev nD) (t : Fin cfg0.N) : (dats m 0 c).leavesExact 4 t = owns (c : Thread nD τ) (st0_4 t) fullShare (iblk m c 4 t) := by unfold Dat.leavesExact; rw [show cfg0.idle 4 (grid0.coords t) = false from rfl, after_4]
theorem leaves_5 (c : Dev nD) (t : Fin cfg0.N) : (dats m 0 c).leavesExact 5 t = owns (c : Thread nD τ) (st0_5 t) fullShare (iblk m c 5 t) := by unfold Dat.leavesExact; rw [show cfg0.idle 5 (grid0.coords t) = false from rfl, after_5]
theorem leaves_6 (c : Dev nD) (t : Fin cfg0.N) : (dats m 0 c).leavesExact 6 t = owns (c : Thread nD τ) (st0_6 t) fullShare (iblk m c 6 t) := by unfold Dat.leavesExact; rw [show cfg0.idle 6 (grid0.coords t) = false from rfl, after_6]
theorem leaves_7 (c : Dev nD) (t : Fin cfg0.N) : (dats m 0 c).leavesExact 7 t = owns (c : Thread nD τ) (st0_7 t) fullShare (iblk m c 7 t) := by unfold Dat.leavesExact; rw [show cfg0.idle 7 (grid0.coords t) = false from rfl, after_7]
theorem leaves_8 (c : Dev nD) (t : Fin cfg0.N) : (dats m 0 c).leavesExact 8 t = owns (c : Thread nD τ) (st0_8 t) fullShare (iblk m c 8 t) := by unfold Dat.leavesExact; rw [show cfg0.idle 8 (grid0.coords t) = false from rfl, after_8]
theorem leaves_9 (c : Dev nD) (t : Fin cfg0.N) : (dats m 0 c).leavesExact 9 t = owns (c : Thread nD τ) (st0_9 t) fullShare (iblk m c 9 t) := by unfold Dat.leavesExact; rw [show cfg0.idle 9 (grid0.coords t) = false from rfl, after_9]
theorem leaves_10 (c : Dev nD) (t : Fin cfg0.N) : (dats m 0 c).leavesExact 10 t = owns (c : Thread nD τ) (st0_10 t) fullShare (iblk m c 10 t) := by unfold Dat.leavesExact; rw [show cfg0.idle 10 (grid0.coords t) = false from rfl, after_10]
theorem leaves_11 (c : Dev nD) (t : Fin cfg0.N) : (dats m 0 c).leavesExact 11 t = owns (c : Thread nD τ) (st0_11 t) fullShare (iblk m c 11 t) := by unfold Dat.leavesExact; rw [show cfg0.idle 11 (grid0.coords t) = false from rfl, after_11]
theorem leaves_12 (c : Dev nD) (t : Fin cfg0.N) : (dats m 0 c).leavesExact 12 t = owns (c : Thread nD τ) (st0_12 t) fullShare (iblk m c 12 t) := by unfold Dat.leavesExact; rw [show cfg0.idle 12 (grid0.coords t) = false from rfl, after_12]
theorem leaves_13 (c : Dev nD) (t : Fin cfg0.N) : (dats m 0 c).leavesExact 13 t = owns (c : Thread nD τ) (st0_13 t) fullShare (iblk m c 13 t) := by unfold Dat.leavesExact; rw [show cfg0.idle 13 (grid0.coords t) = false from rfl, after_13]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t)

set_option maxHeartbeats 40000000 in
/-- The body at the first point. -/
theorem body_first (c : Dev nD) (t : Fin cfg0.N) (hz : t.val = 0) :
    bodyPre m c t ⊢ wp frame (wpE (defs₀ (F := F)) Variants.none c none) Set.univ (bodyAt0 t) (fun _ => bodyPost m c t) := by
  have hN : t.val < 10 := lt_of_lt_of_eq t.isLt N_0
  have h0 := coord0 t
  have h1 := coord1 t
  unfold bodyPre bodyPost bodyAt0
  simp only [before_0, before_1, before_2, before_3, before_4, before_5, before_6, before_7, before_8, before_9, before_10, before_11, before_12, before_13, leaves_0, leaves_1, leaves_2, leaves_3, leaves_4, leaves_5, leaves_6, leaves_7, leaves_8, leaves_9, leaves_10, leaves_11, leaves_12, leaves_13]
  rw [show (dats m 0 c).owesAt () t.succ = (dats m 0 c).owesAt () t.castSucc from rfl]
  rw [show (dats m 0 c).Φ t.succ = held c (carryAt m c t.val t.isLt) from rfl, inv_castSucc m c t]
  rw [Dat.leavesExact_idle (dats m 0 c) 14 t (idle14 t (by omega)) (noFlush14 t (by omega))]
  rw [Dat.leavesExact_idle (dats m 0 c) 15 t (idle15 t (by omega)) (noFlush15 t (by omega))]
  rw [inv_zero m c _ _ hz, rest_eq, carryAt_first m c t hz]
  unfold held gateStep; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_first c (grid0.coords t) _ _ _ _ _ _ _ _ _ _ _ _ _ _ _ _ _ _ _ _ _ _ _ _ _ _ _ _ _ _ _ _ _ _ _ _ _ _ _ _ (by omega) (by omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexists _; iexact H15

set_option maxHeartbeats 40000000 in
/-- The body at the first phase of a later batch row. -/
theorem body_gate (c : Dev nD) (t : Fin cfg0.N) (hz : t.val ≠ 0) (hp : t.val % 5 = 0) :
    bodyPre m c t ⊢ wp frame (wpE (defs₀ (F := F)) Variants.none c none) Set.univ (bodyAt0 t) (fun _ => bodyPost m c t) := by
  have hN : t.val < 10 := lt_of_lt_of_eq t.isLt N_0
  have h0 := coord0 t
  have h1 := coord1 t
  unfold bodyPre bodyPost bodyAt0
  simp only [before_0, before_1, before_2, before_3, before_4, before_5, before_6, before_7, before_8, before_9, before_10, before_11, before_12, before_13, leaves_0, leaves_1, leaves_2, leaves_3, leaves_4, leaves_5, leaves_6, leaves_7, leaves_8, leaves_9, leaves_10, leaves_11, leaves_12, leaves_13]
  rw [show (dats m 0 c).owesAt () t.succ = (dats m 0 c).owesAt () t.castSucc from rfl]
  rw [show (dats m 0 c).Φ t.succ = held c (carryAt m c t.val t.isLt) from rfl, inv_castSucc m c t]
  rw [Dat.leavesExact_idle (dats m 0 c) 14 t (idle14 t (by omega)) (noFlush14 t (by omega))]
  rw [Dat.leavesExact_idle (dats m 0 c) 15 t (idle15 t (by omega)) (noFlush15 t (by omega))]
  rw [inv_pos m c _ _ hz, carryAt_gate m c t hz hp]
  unfold held gateStep; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_gate c (grid0.coords t) _ _ _ _ _ _ _ _ _ _ _ _ _ _ _ _ _ _ _ _ _ _ _ _ _ _ _ _ _ _ _ _ _ _ _ _ _ _ _ _ (by omega) (by omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexists _; iexact HS0
  isplitl [HS1]; · iexists _; iexact HS1
  isplitl [HS2]; · iexists _; iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexists _; iexact H15

set_option maxHeartbeats 40000000 in
/-- The body at an expert that is not the last. -/
theorem body_mid (c : Dev nD) (t : Fin cfg0.N) (hp : t.val % 5 ≠ 0) (hl : t.val % 5 ≠ 4) :
    bodyPre m c t ⊢ wp frame (wpE (defs₀ (F := F)) Variants.none c none) Set.univ (bodyAt0 t) (fun _ => bodyPost m c t) := by
  have hN : t.val < 10 := lt_of_lt_of_eq t.isLt N_0
  have h0 := coord0 t
  have h1 := coord1 t
  unfold bodyPre bodyPost bodyAt0
  simp only [before_0, before_1, before_2, before_3, before_4, before_5, before_6, before_7, before_8, before_9, before_10, before_11, before_12, before_13, leaves_0, leaves_1, leaves_2, leaves_3, leaves_4, leaves_5, leaves_6, leaves_7, leaves_8, leaves_9, leaves_10, leaves_11, leaves_12, leaves_13]
  rw [show (dats m 0 c).owesAt () t.succ = (dats m 0 c).owesAt () t.castSucc from rfl]
  rw [show (dats m 0 c).Φ t.succ = held c (carryAt m c t.val t.isLt) from rfl, inv_castSucc m c t]
  rw [Dat.leavesExact_idle (dats m 0 c) 14 t (idle14 t (by omega)) (noFlush14 t (by omega))]
  rw [Dat.leavesExact_idle (dats m 0 c) 15 t (idle15 t (by omega)) (noFlush15 t (by omega))]
  rw [inv_pos m c _ _ (by omega), carryAt_expert m c t (by omega)]
  unfold held expertStep; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_mid c (grid0.coords t) _ _ _ _ _ _ _ _ _ _ _ _ _ _ _ _ _ _ _ _ _ _ _ _ _ _ _ _ _ _ _ _ _ _ _ _ _ _ _ _ (expertIdx t.val) (by show (grid0.coords t 1).val = t.val % 5 - 1 + 1; omega) (by omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ _ (carryAt m c (t.val - 1) (Nat.lt_of_le_of_lt (Nat.sub_le _ _) t.isLt)).1 (carryAt m c (t.val - 1) (Nat.lt_of_le_of_lt (Nat.sub_le _ _) t.isLt)).2.1 (carryAt m c (t.val - 1) (Nat.lt_of_le_of_lt (Nat.sub_le _ _) t.isLt)).2.2.1 (carryAt m c (t.val - 1) (Nat.lt_of_le_of_lt (Nat.sub_le _ _) t.isLt)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iexists _; iexact H15

set_option maxHeartbeats 40000000 in
/-- The body at the last phase of the first batch row. -/
theorem body_emit (c : Dev nD) (t : Fin cfg0.N) (hp : t.val % 5 = 4) (hl : t.val ≠ 9) :
    bodyPre m c t ⊢ wp frame (wpE (defs₀ (F := F)) Variants.none c none) Set.univ (bodyAt0 t) (fun _ => bodyPost m c t) := by
  have hN : t.val < 10 := lt_of_lt_of_eq t.isLt N_0
  have h0 := coord0 t
  have h1 := coord1 t
  unfold bodyPre bodyPost bodyAt0
  simp only [before_0, before_1, before_2, before_3, before_4, before_5, before_6, before_7, before_8, before_9, before_10, before_11, before_12, before_13, leaves_0, leaves_1, leaves_2, leaves_3, leaves_4, leaves_5, leaves_6, leaves_7, leaves_8, leaves_9, leaves_10, leaves_11, leaves_12, leaves_13]
  rw [show (dats m 0 c).owesAt () t.succ = (dats m 0 c).owesAt () t.castSucc from rfl]
  rw [show (dats m 0 c).Φ t.succ = held c (carryAt m c t.val t.isLt) from rfl, inv_castSucc m c t]
  rw [show (dats m 0 c).leavesExact 14 t = owns (c : Thread nD τ) (st0_14 t) fullShare ((dats m 0 c).after 14 t) from by unfold Dat.leavesExact; rw [live14 t (by omega)], after_14]
  rw [Dat.leavesExact_idle (dats m 0 c) 15 t (idle15 t (by omega)) (noFlush15 t (by omega))]
  rw [inv_pos m c _ _ (by omega), carryAt_expert m c t (by omega)]
  unfold held expertStep; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_emit c (grid0.coords t) _ _ _ _ _ _ _ _ _ _ _ _ _ _ _ _ _ _ _ _ _ _ _ _ _ _ _ _ _ _ _ _ _ _ _ _ _ _ _ _ (expertIdx t.val) (by show (grid0.coords t 1).val = t.val % 5 - 1 + 1; omega) (by omega) (by omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) _ (carryAt m c (t.val - 1) (Nat.lt_of_le_of_lt (Nat.sub_le _ _) t.isLt)).1 (carryAt m c (t.val - 1) (Nat.lt_of_le_of_lt (Nat.sub_le _ _) t.isLt)).2.1 (carryAt m c (t.val - 1) (Nat.lt_of_le_of_lt (Nat.sub_le _ _) t.isLt)).2.2.1 (carryAt m c (t.val - 1) (Nat.lt_of_le_of_lt (Nat.sub_le _ _) t.isLt)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; iexact H15

set_option maxHeartbeats 40000000 in
/-- The body at the last point. -/
theorem body_last (c : Dev nD) (t : Fin cfg0.N) (hl : t.val = 9) :
    bodyPre m c t ⊢ wp frame (wpE (defs₀ (F := F)) Variants.none c none) Set.univ (bodyAt0 t) (fun _ => bodyPost m c t) := by
  have hN : t.val < 10 := lt_of_lt_of_eq t.isLt N_0
  have h0 := coord0 t
  have h1 := coord1 t
  unfold bodyPre bodyPost bodyAt0
  simp only [before_0, before_1, before_2, before_3, before_4, before_5, before_6, before_7, before_8, before_9, before_10, before_11, before_12, before_13, leaves_0, leaves_1, leaves_2, leaves_3, leaves_4, leaves_5, leaves_6, leaves_7, leaves_8, leaves_9, leaves_10, leaves_11, leaves_12, leaves_13]
  rw [show (dats m 0 c).owesAt () t.succ = (dats m 0 c).owesAt () t.castSucc from rfl]
  rw [show (dats m 0 c).Φ t.succ = held c (carryAt m c t.val t.isLt) from rfl, inv_castSucc m c t]
  rw [show (dats m 0 c).leavesExact 14 t = owns (c : Thread nD τ) (st0_14 t) fullShare ((dats m 0 c).after 14 t) from by unfold Dat.leavesExact; rw [live14 t (by omega)], after_14]
  rw [show (dats m 0 c).leavesExact 15 t = owns (c : Thread nD τ) (st0_15 t) fullShare ((dats m 0 c).after 15 t) from by unfold Dat.leavesExact; rw [live15 t (by omega)], after_15]
  rw [inv_pos m c _ _ (by omega), carryAt_expert m c t (by omega)]
  unfold held expertStep; dsimp only
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (run_last c (grid0.coords t) _ _ _ _ _ _ _ _ _ _ _ _ _ _ _ _ _ _ _ _ _ _ _ _ _ _ _ _ _ _ _ _ _ _ _ _ _ _ _ _ (expertIdx t.val) (by show (grid0.coords t 1).val = t.val % 5 - 1 + 1; omega) (by omega) (by omega) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (carryAt m c (t.val - 1) (Nat.lt_of_le_of_lt (Nat.sub_le _ _) t.isLt)).1 (carryAt m c (t.val - 1) (Nat.lt_of_le_of_lt (Nat.sub_le _ _) t.isLt)).2.1 (carryAt m c (t.val - 1) (Nat.lt_of_le_of_lt (Nat.sub_le _ _) t.isLt)).2.2.1 (carryAt m c (t.val - 1) (Nat.lt_of_le_of_lt (Nat.sub_le _ _) t.isLt)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [HS0]; · iexact HS0
  isplitl [HS1]; · iexact HS1
  isplitl [HS2]; · iexact HS2
  isplitl [HS3]; · iexact HS3
  iintro ⟨H0, H1, H2, H3, H4, H5, H6, H7, H8, H9, H10, H11, H12, H13, H14, H15, HS0, HS1, HS2, HS3⟩
  isplitl [HS0 HS1 HS2 HS3 Hg]
  · isplitl [HS0 HS1 HS2 HS3]
    · isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body at any point. -/
theorem sound_body (c : Dev nD) (t : Fin cfg0.N) :
    bodyPre m c t ⊢ wp frame (wpE (defs₀ (F := F)) Variants.none c none) Set.univ (bodyAt0 t) (fun _ => bodyPost m c t) := by
  by_cases hz : t.val = 0
  · exact body_first m c t hz
  by_cases hp : t.val % 5 = 0
  · exact body_gate m c t hz hp
  by_cases h4 : t.val % 5 = 4
  · by_cases h9 : t.val = 9
    · exact body_last m c t h9
    · exact body_emit m c t h4 h9
  · exact body_mid m c t hp h4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = inv m c 0 (Nat.zero_le _) from rfl, inv_zero m c 0 _ rfl]

theorem hout (c : Dev nD) : (dats m 0 c).Φ (Fin.last cfg0.N) ⊢ Pipeline.ΦA spec0 c := by
  rw [show (dats m 0 c).Φ (Fin.last cfg0.N) = inv m c cfg0.N (Nat.le_refl _) from rfl,
    inv_pos m c _ _ (by rw [show cfg0.N = 10 from N_0]; decide), rest_eq]
  unfold held
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg

/-! ## The run and the frame -/

set_option backward.isDefEq.respectTransparency.types false in
set_option maxHeartbeats 800000 in
/-- The launch: every fair execution ends, with every array at what the proof data say and every counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Same.lean ====
/- The kernel and its idealization have the same text: at one float instance they are the same program. -/
module

public import proofs.«01_k».proof.Defs
public import proofs.«01_k».proof.Proof.Gen.Kernel
public import proofs.«01_k».proof.Proof.Launched

public section

set_option maxHeartbeats 2000000

noncomputable section

open Idealize.ShloMosaic Idealize.SL.Sem

namespace Cert.Same

/-- The two kernel bodies are one function. -/
theorem body_eq : @Cert.Kernel.cc0__fused_kernel Bits _ _ = @Cert.KernelIdeal.cc0__fused_kernel Bits _ _ := rfl

/-- The two body tables, label by label. -/
theorem table_eq : Cert.Kernel.defs₀ (F := Bits) = Cert.KernelIdeal.defs₀ (F := Bits) := by
  refine congrArg Defs.onTc ?_
  funext l a
  match l, a with
  | 0, (t, s) => rfl

/-- The two definition tables. -/
theorem defs_eq : Cert.Kernel.defs (F := Bits) = Cert.KernelIdeal.defs (F := Bits) :=
  congrArg (Pipeline.defs Cert.KernelIdeal.pcfgs) table_eq

/-- The two host programs, once the called function is written out. -/
theorem main_eq (c : Dev Cert.Kernel.nD) : Cert.Kernel.main (F := Bits) c = Cert.KernelIdeal.main (F := Bits) c := by
  delta Cert.Kernel.main Cert.KernelIdeal.main Cert.Kernel.fn_dynamic_index_in_dim.body Cert.KernelIdeal.fn_dynamic_index_in_dim.body
  rfl

/-- A run of the idealization's text at the machine's floats is a run of the kernel. -/
theorem run_eq (m : (ℓ : Loc Cert.KernelIdeal.nD Cert.KernelIdeal.τ Cert.KernelIdeal.sig) → Buf (Elt Bits) ℓ)
    (ρ : Dev Cert.KernelIdeal.nD → PrngReg) (Q : _ → Prop)
    (h : θ_run Cert.KernelIdeal.defs (onTc (τ := Cert.KernelIdeal.τ) (Cert.KernelIdeal.main (F := Bits))) ⟨m, fun _ => 0, ρ⟩ Q) :
    θ_run Cert.Kernel.defs (onTc (τ := Cert.Kernel.τ) (Cert.Kernel.main (F := Bits))) ⟨m, fun _ => 0, ρ⟩ Q :=
  (congrArg₂ (fun d p => θ_run d p ⟨m, fun _ => 0, ρ⟩ Q) defs_eq (congrArg (onTc (τ := Cert.KernelIdeal.τ)) (funext main_eq))).mpr h

/-- The kernel's frame. -/
theorem frame_kernel : Cert.quiescent_Kernel := fun m ρ _ =>
  run_eq m ρ _ (Cert.KernelIdeal.Gen.frame (F := Bits) m ρ)

end Cert.Same

end
-- ==== Proof.Gate.lean ====
module

public import Idealize.ShloMosaic.Lib.SortFacts
public import Idealize.ShloMosaic.Lib.IdealHost
public import Idealize.ShloMosaic.Lib.Pointwise

@[expose] public section

noncomputable section

namespace Cert.Spec

open Idealize.ShloMosaic

/-! # The two largest of four logits and their gates

One row of four logits is gated twice.  The first way finds the largest logit and its first place, covers that place with
`-∞`, finds the largest of the rest and its first place, and gives the two places the two softmax weights.  The second way
takes the two first entries of a stable sort, greatest first, and the softmax of the two values.  This module shows that both
ways give the same gates when no logit is infinite. -/

/-- The word of `-∞`. -/
abbrev negInf : EReal := Ideal.ofBits .f32 0xFF800000#32

theorem negInf_eq : negInf = ⊥ := by
  simp [negInf, Ideal.ofBits, Ideal.ieee]

/-- The largest of four. -/
def top (l : Fin 4 → EReal) : EReal := Finset.univ.fold max negInf l

/-- The first place of the largest, as a word. -/
def place (l : Fin 4 → EReal) : BitVec 32 :=
  Finset.univ.fold IntOp.minsi 2147483647#32 fun k : Fin 4 => if l k = top l then BitVec.ofNat 32 k.val else 4#32

/-- The row with the place `w` covered. -/
def cover (l : Fin 4 → EReal) (w : BitVec 32) (k : Fin 4) : EReal :=
  Scalar.select (IntOp.cmpi .eq (BitVec.ofNat 32 k.val) w) negInf (l k)

/-- The gate of place `e`. -/
def gate (l : Fin 4 → EReal) (e : Fin 4) : EReal :=
  Scalar.select (IntOp.cmpi .eq (BitVec.ofNat 32 e.val) (place l))
      (Ideal.div 1 (1 + Ideal.exp (top (cover l (place l)) - top l))) 0
    + Scalar.select (IntOp.cmpi .eq (BitVec.ofNat 32 e.val) (place (cover l (place l))))
      (Ideal.exp (top (cover l (place l)) - top l) * Ideal.div 1 (1 + Ideal.exp (top (cover l (place l)) - top l))) 0

/-- Place `a` comes before place `b`: its logit is greater, or they are equal and `a` is the smaller place. -/
def Ahead (l : Fin 4 → EReal) (a b : Fin 4) : Prop := l b < l a ∨ (l a = l b ∧ a < b)

theorem Ahead.trans {l : Fin 4 → EReal} {a b c : Fin 4} (h : Ahead l a b) (h' : Ahead l b c) : Ahead l a c := by
  rcases h with h | ⟨h, k⟩ <;> rcases h' with h' | ⟨h', k'⟩
  · exact .inl (h'.trans h)
  · exact .inl (h' ▸ h)
  · exact .inl (h.symm ▸ h')
  · exact .inr ⟨h.trans h', k.trans k'⟩

/-- `p` is the first place of the largest. -/
def First (l : Fin 4 → EReal) (p : Fin 4) : Prop := ∀ j, j ≠ p → Ahead l p j

theorem fold_four {α : Type} (op : α → α → α) [Std.Commutative op] [Std.Associative op] (b : α) (f : Fin 4 → α) :
    Finset.univ.fold op b f = op (f 0) (op (f 1) (op (f 2) (op (f 3) b))) := rfl

theorem First.le {l : Fin 4 → EReal} {p : Fin 4} (h : First l p) (j : Fin 4) : l j ≤ l p := by
  by_cases e : j = p
  · rw [e]
  · rcases h j e with h | h
    · exact h.le
    · exact h.1.ge

theorem First.top_eq {l : Fin 4 → EReal} {p : Fin 4} (h : First l p) : top l = l p := by
  rw [top, fold_four, negInf_eq]
  refine le_antisymm ?_ ?_
  · exact max_le (h.le 0) (max_le (h.le 1) (max_le (h.le 2) (max_le (h.le 3) bot_le)))
  · fin_cases p
    · exact le_max_left _ _
    · exact le_max_of_le_right (le_max_left _ _)
    · exact le_max_of_le_right (le_max_of_le_right (le_max_left _ _))
    · exact le_max_of_le_right (le_max_of_le_right (le_max_of_le_right (le_max_left _ _)))

theorem First.ne_of_lt {l : Fin 4 → EReal} {p : Fin 4} (h : First l p) (j : Fin 4) (hj : j < p) : l j ≠ l p := by
  rcases h j hj.ne with h | h
  · exact h.ne
  · exact absurd (h.2.trans hj) (lt_irrefl _)

theorem First.place_eq {l : Fin 4 → EReal} {p : Fin 4} (h : First l p) : place l = BitVec.ofNat 32 p.val := by
  rw [place, fold_four, h.top_eq]
  have h0 := h.ne_of_lt 0
  have h1 := h.ne_of_lt 1
  have h2 := h.ne_of_lt 2
  fin_cases p
  · by_cases e1 : l 1 = l 0 <;> by_cases e2 : l 2 = l 0 <;> by_cases e3 : l 3 = l 0 <;> simp [e1, e2, e3] <;> decide
  · have e0 : l 0 ≠ l 1 := h0 (by decide)
    by_cases e2 : l 2 = l 1 <;> by_cases e3 : l 3 = l 1 <;> simp [e0, e2, e3] <;> decide
  · have e0 : l 0 ≠ l 2 := h0 (by decide)
    have e1 : l 1 ≠ l 2 := h1 (by decide)
    by_cases e3 : l 3 = l 2 <;> simp [e0, e1, e3] <;> decide
  · have e0 : l 0 ≠ l 3 := h0 (by decide)
    have e1 : l 1 ≠ l 3 := h1 (by decide)
    have e2 : l 2 ≠ l 3 := h2 (by decide)
    simp [e0, e1, e2] <;> decide

theorem cmp_place (a b : Fin 4) : IntOp.cmpi .eq (BitVec.ofNat 32 a.val) (BitVec.ofNat 32 b.val) = if a = b then 1#1 else 0#1 := by
  revert a b; decide

theorem select_ite {α : Type} (c : Prop) [Decidable c] (x y : α) : Scalar.select (if c then 1#1 else 0#1) x y = if c then x else y := by
  by_cases h : c <;> simp [h, Scalar.select]

theorem cover_eq (l : Fin 4 → EReal) (p k : Fin 4) : cover l (BitVec.ofNat 32 p.val) k = if k = p then ⊥ else l k := by
  rw [cover, cmp_place, select_ite, negInf_eq]

/-- `q` is the first place of the largest of the rest. -/
def Second (l : Fin 4 → EReal) (p q : Fin 4) : Prop := q ≠ p ∧ ∀ j, j ≠ p → j ≠ q → Ahead l q j

theorem Second.first_cover {l : Fin 4 → EReal} {p q : Fin 4} (h : Second l p q) (hl : ∀ k, l k ≠ ⊥) :
    First (cover l (BitVec.ofNat 32 p.val)) q := by
  intro j hj
  rw [Ahead, cover_eq, cover_eq, if_neg h.1]
  by_cases e : j = p
  · rw [if_pos e]; exact .inl (bot_lt_iff_ne_bot.2 (hl q))
  · rw [if_neg e]; exact h.2 j e hj

/-- The gates when the two first places are `p` and `q`. -/
theorem gate_eq {l : Fin 4 → EReal} {p q : Fin 4} (hp : First l p) (hq : Second l p q) (hl : ∀ k, l k ≠ ⊥) (e : Fin 4) :
    gate l e = (if e = p then Ideal.div 1 (1 + Ideal.exp (l q - l p)) else 0)
      + (if e = q then Ideal.exp (l q - l p) * Ideal.div 1 (1 + Ideal.exp (l q - l p)) else 0) := by
  have hc := hq.first_cover hl
  rw [gate, hp.place_eq, hc.place_eq, hc.top_eq, hp.top_eq, cmp_place, cmp_place, select_ite, select_ite, cover_eq, if_neg hq.1]

/-! ## The stable sort -/

section sort

variable (l : Fin 4 → EReal)

/-- The comparison of the sort: greater first. -/
def greater (a b : Fin 4) : Bool := Ideal.cmp .ogt (l a) (l b) == 1#1

theorem greater_iff (a b : Fin 4) : greater l a b = true ↔ l b < l a := by
  rw [greater, Ideal.cmp]
  by_cases h : l b < l a <;> simp [h]

theorem pairwise_insert (a : Fin 4) (s : List (Fin 4)) (ha : ∀ b ∈ s, a < b) (hs : s.Pairwise (Ahead l)) :
    (insertBefore (greater l) a s).Pairwise (Ahead l) := by
  induction s with
  | nil => exact List.pairwise_singleton _ _
  | cons b s ih =>
    rw [List.pairwise_cons] at hs
    unfold insertBefore
    split
    · rename_i h
      rw [greater_iff] at h
      refine List.pairwise_cons.2 ⟨fun c hc => ?_, ih (fun c hc => ha c (List.mem_cons_of_mem _ hc)) hs.2⟩
      rcases List.mem_cons.1 ((perm_insertBefore _ a s).mem_iff.1 hc) with rfl | hc
      · exact .inl h
      · exact hs.1 c hc
    · rename_i h
      rw [greater_iff, not_lt] at h
      have hab : Ahead l a b := by
        rcases h.lt_or_eq with h | h
        · exact .inl h
        · exact .inr ⟨h.symm, ha b List.mem_cons_self⟩
      refine List.pairwise_cons.2 ⟨fun c hc => ?_, List.pairwise_cons.2 hs⟩
      rcases List.mem_cons.1 hc with rfl | hc
      · exact hab
      · exact hab.trans (hs.1 c hc)

theorem pairwise_sort (s : List (Fin 4)) (hs : s.Pairwise (· < ·)) : (stableSort (greater l) s).Pairwise (Ahead l) := by
  induction s with
  | nil => exact List.Pairwise.nil
  | cons a s ih =>
    rw [List.pairwise_cons] at hs
    unfold stableSort
    exact pairwise_insert l a _ (fun b hb => hs.1 b ((perm_stableSort _ s).mem_iff.1 hb)) (ih hs.2)

/-- The place the sort puts at `k`. -/
def sorted (k : Fin 4) : Fin 4 := sortedFrom (greater l) k

theorem sorted_ahead (i j : Fin 4) (h : i < j) : Ahead l (sorted l i) (sorted l j) := by
  have hp := List.pairwise_iff_get.1 (pairwise_sort l (List.finRange 4) (by decide))
  exact hp _ _ h

theorem sorted_first : First l (sorted l 0) := by
  intro j hj
  obtain ⟨i, rfl⟩ := sortedFrom_surjective (greater l) j
  refine sorted_ahead l 0 i (Fin.pos_of_ne_zero fun e => hj ?_)
  subst e; rfl

theorem sorted_second : Second l (sorted l 0) (sorted l 1) := by
  refine ⟨fun e => absurd (sortedFrom_injective (greater l) e) (by decide), fun j hj hj' => ?_⟩
  obtain ⟨i, rfl⟩ := sortedFrom_surjective (greater l) j
  have h0 : i ≠ 0 := fun e => hj (by subst e; rfl)
  have h1 : i ≠ 1 := fun e => hj' (by subst e; rfl)
  refine sorted_ahead l 1 i ?_
  clear hj hj'
  revert h0 h1; revert i; decide

end sort

/-! ## The softmax of the two values -/

theorem exp_ne {r : EReal} (h : r ≠ ⊤) : ∃ y : ℝ, 0 ≤ y ∧ Ideal.exp r = (y : EReal) := by
  induction r with
  | bot => exact ⟨0, le_rfl, rfl⟩
  | coe r => exact ⟨Real.exp r, (Real.exp_pos r).le, rfl⟩
  | top => exact absurd rfl h

theorem sub_self_coe {a : EReal} (h : a ≠ ⊥) (h' : a ≠ ⊤) : a - a = 0 := by
  lift a to ℝ using ⟨h', h⟩
  rw [← EReal.coe_sub, sub_self, EReal.coe_zero]

theorem exp_zero : Ideal.exp 0 = 1 := by
  rw [← EReal.coe_zero]; show ((Real.exp 0 : ℝ) : EReal) = 1
  rw [Real.exp_zero, EReal.coe_one]

/-- The softmax of two values, the first at least as large: its maximum, its sum, its two quotients. -/
theorem softmax_two {a b : EReal} (hab : b ≤ a) (ha : a ≠ ⊤) (hb : b ≠ ⊥) :
    Ideal.div (Ideal.exp (a - max a b)) (Ideal.exp (a - max a b) + Ideal.exp (b - max a b)) = Ideal.div 1 (1 + Ideal.exp (b - a))
    ∧ Ideal.div (Ideal.exp (b - max a b)) (Ideal.exp (a - max a b) + Ideal.exp (b - max a b))
      = Ideal.exp (b - a) * Ideal.div 1 (1 + Ideal.exp (b - a)) := by
  have ha' : a ≠ ⊥ := fun h => hb (le_bot_iff.1 (h ▸ hab))
  have hb' : b ≠ ⊤ := fun h => ha (top_le_iff.1 (h ▸ hab))
  rw [max_eq_left hab, sub_self_coe ha' ha, exp_zero]
  refine ⟨rfl, ?_⟩
  lift a to ℝ using ⟨ha, ha'⟩
  lift b to ℝ using ⟨hb', hb⟩
  obtain ⟨y, hy, e⟩ := exp_ne (r := (b : EReal) - a) (by rw [← EReal.coe_sub]; exact EReal.coe_ne_top _)
  rw [e]
  have : (1 : EReal) + (y : EReal) = ((1 + y : ℝ) : EReal) := by rw [EReal.coe_add, EReal.coe_one]
  rw [this, Ideal.div_coe (by positivity), Ideal.div_coe (by positivity), one_mul]

end Cert.Spec

end
-- ==== Proof.Spec.lean ====
module

public import proofs.«01_k».proof.Proof.Gate

@[expose] public section

noncomputable section

namespace Cert.Spec

open Idealize.ShloMosaic

/-! # The module as scalar functions

Everything the two results are made of, one scalar at a time, over the extended reals. -/

/-- The number of channels. -/
abbrev wide : EReal := Ideal.ofBits .f32 0x44400000#32
/-- What the variance is moved off zero by. -/
abbrev small : EReal := Ideal.ofBits .f32 0x3727C5AC#32
/-- The number of pixels. -/
abbrev pixels : EReal := Ideal.ofBits .f32 0x44800000#32
/-- The number of experts. -/
abbrev four : EReal := Ideal.ofBits .f32 0x40800000#32

/-- A projected feature: the two token rows against the two halves of a weight row, rectified. -/
def proj (xr tr : Fin 768 → EReal) (w : Fin 768 → Fin 1536 → EReal) (o : Fin 768) : EReal :=
  max (∑ k : Fin 768, xr k * w o ⟨k.val, by omega⟩ + ∑ k : Fin 768, tr k * w o ⟨768 + k.val, by omega⟩) 0

/-- The mean of a row of features. -/
def mean (y : Fin 768 → EReal) : EReal := Ideal.div (∑ k, y k) wide

/-- The variance of a row of features. -/
def variance (y : Fin 768 → EReal) : EReal := Ideal.div (∑ k, (y k - mean y) * (y k - mean y)) wide

/-- A normalised feature. -/
def normed (y : Fin 768 → EReal) (s b : Fin 768 → EReal) (o : Fin 768) : EReal :=
  Ideal.div (y o - mean y) (Ideal.sqrt (variance y + small)) * s o + b o

/-- The logit of an expert. -/
def logit (f : Fin 768 → EReal) (w : Fin 768 → Fin 4 → EReal) (e : Fin 4) : EReal := ∑ k, f k * w k e

/-- The weight of the first image at a channel, from the channel means. -/
def squash (s : Fin 768 → EReal) (w1 : Fin 48 → Fin 768 → EReal) (b1 : Fin 48 → EReal) (w2 : Fin 768 → Fin 48 → EReal)
    (b2 : Fin 768 → EReal) (c : Fin 768) : EReal :=
  Ideal.div 1 (1 + Ideal.exp (-(∑ k, max (∑ j, s j * w1 k j + b1 k) 0 * w2 c k + b2 c)))

/-- One output of one expert. -/
def expert (f : Fin 768 → EReal) (w1 : Fin 384 → Fin 768 → EReal) (b1 : Fin 384 → EReal) (w2 : Fin 768 → Fin 384 → EReal)
    (b2 : Fin 768 → EReal) (o : Fin 768) : EReal :=
  ∑ h, max (∑ k, f k * w1 h k + b1 h) 0 * w2 o h + b2 o

/-- The squared coefficient of variation of four numbers. -/
def cv (v : Fin 4 → EReal) : EReal :=
  Ideal.div (Ideal.div (∑ e, (v e - Ideal.div (∑ k, v k) four) * (v e - Ideal.div (∑ k, v k) four)) four)
    (Ideal.div (∑ k, v k) four * Ideal.div (∑ k, v k) four + Ideal.ofBits .f32 0x2EDBE6FF#32)

/-- The inputs, token rows first. -/
structure Net where
  x : Fin 2 → Fin 1024 → Fin 768 → EReal
  t : Fin 2 → Fin 1024 → Fin 768 → EReal
  w : Fin 768 → Fin 1536 → EReal
  ls : Fin 768 → EReal
  lb : Fin 768 → EReal
  f1 : Fin 48 → Fin 768 → EReal
  c1 : Fin 48 → EReal
  f2 : Fin 768 → Fin 48 → EReal
  c2 : Fin 768 → EReal
  wg : Fin 768 → Fin 4 → EReal
  e1 : Fin 4 → Fin 384 → Fin 768 → EReal
  b1 : Fin 4 → Fin 384 → EReal
  e2 : Fin 4 → Fin 768 → Fin 384 → EReal
  b2 : Fin 4 → Fin 768 → EReal

namespace Net

variable (N : Net)

/-- The normalised features of a token. -/
def feat (b : Fin 2) (n : Fin 1024) : Fin 768 → EReal := normed (proj (N.x b n) (N.t b n) N.w) N.ls N.lb

/-- The logits of a token. -/
def logits (b : Fin 2) (n : Fin 1024) : Fin 4 → EReal := logit (N.feat b n) N.wg

/-- The gates of a token. -/
def gates (b : Fin 2) (n : Fin 1024) : Fin 4 → EReal := gate (N.logits b n)

/-- The sum of an expert's gates over a batch row's tokens. -/
def imp (b : Fin 2) (e : Fin 4) : EReal := ∑ n, N.gates b n e

/-- The number of a batch row's tokens that an expert is given. -/
def load (b : Fin 2) (e : Fin 4) : EReal := ∑ n, if 0 < N.gates b n e then (1 : EReal) else 0

/-- The balance penalty. -/
def aux : EReal :=
  (cv (fun e => N.imp 0 e + N.imp 1 e) + cv (fun e => N.load 0 e + N.load 1 e)) * Ideal.ofBits .f32 0x3C23D70A#32

/-- The mean of the two images' sum over a channel. -/
def pooled (b : Fin 2) (c : Fin 768) : EReal := Ideal.div (∑ n, (N.x b n c + N.t b n c)) pixels

/-- The weight of the first image. -/
def mix (b : Fin 2) (c : Fin 768) : EReal := squash (N.pooled b) N.f1 N.c1 N.f2 N.c2 c

/-- The fused image. -/
def fused (b : Fin 2) (n : Fin 1024) (c : Fin 768) : EReal := N.x b n c * N.mix b c + N.t b n c * (1 - N.mix b c)

/-- What an expert adds. -/
def part (b : Fin 2) (n : Fin 1024) (c : Fin 768) (e : Fin 4) : EReal :=
  N.gates b n e * expert (N.feat b n) (N.e1 e) (N.b1 e) (N.e2 e) (N.b2 e) c

/-- The image that comes out. -/
def out (b : Fin 2) (n : Fin 1024) (c : Fin 768) : EReal := ∑ e, N.part b n c e + N.fused b n c

end Net

/-! ## The literals as numbers -/

theorem wide_eq : wide = ((768 : ℝ) : EReal) := by
  simp [wide, Ideal.ofBits, Ideal.ieee, -EReal.coe_mul]; try norm_num
theorem four_eq : four = ((4 : ℝ) : EReal) := by
  simp [four, Ideal.ofBits, Ideal.ieee, -EReal.coe_mul]; norm_num
theorem pixels_eq : pixels = ((1024 : ℝ) : EReal) := by
  simp [pixels, Ideal.ofBits, Ideal.ieee, -EReal.coe_mul]; try norm_num
theorem thousandth_eq : Ideal.ofBits .f32 0x3A800000#32 = ((1 / 1024 : ℝ) : EReal) := by
  simp [Ideal.ofBits, Ideal.ieee, -EReal.coe_mul]; norm_num
theorem small_eq : ∃ r : ℝ, 0 < r ∧ small = (r : EReal) := by
  refine ⟨_, ?_, by simp only [small, Ideal.ofBits, Ideal.ieee]; rw [if_neg (by decide), if_neg (by decide)]⟩
  simp

theorem mul_thousandth (a : EReal) : a * Ideal.ofBits .f32 0x3A800000#32 = Ideal.div a pixels := by
  rw [pixels_eq, Ideal.div_coe (by norm_num), thousandth_eq]

/-! ## Logits of finite inputs are finite -/

/-- Neither infinity. -/
def Fine (a : EReal) : Prop := ∃ r : ℝ, a = (r : EReal)

theorem fine_of_ne {a : EReal} (h : a ≠ ⊥) (h' : a ≠ ⊤) : Fine a := by
  lift a to ℝ using ⟨h', h⟩
  exact ⟨a, rfl⟩

theorem Fine.ne_bot {a : EReal} (h : Fine a) : a ≠ ⊥ := by obtain ⟨r, rfl⟩ := h; exact EReal.coe_ne_bot r
theorem Fine.ne_top {a : EReal} (h : Fine a) : a ≠ ⊤ := by obtain ⟨r, rfl⟩ := h; exact EReal.coe_ne_top r

theorem Fine.add {a b : EReal} (h : Fine a) (h' : Fine b) : Fine (a + b) := by
  obtain ⟨r, rfl⟩ := h; obtain ⟨s, rfl⟩ := h'; exact ⟨r + s, (EReal.coe_add r s).symm⟩
theorem Fine.sub {a b : EReal} (h : Fine a) (h' : Fine b) : Fine (a - b) := by
  obtain ⟨r, rfl⟩ := h; obtain ⟨s, rfl⟩ := h'; exact ⟨r - s, (EReal.coe_sub r s).symm⟩
theorem Fine.mul {a b : EReal} (h : Fine a) (h' : Fine b) : Fine (a * b) := by
  obtain ⟨r, rfl⟩ := h; obtain ⟨s, rfl⟩ := h'; exact ⟨r * s, (EReal.coe_mul r s).symm⟩
theorem Fine.max {a b : EReal} (h : Fine a) (h' : Fine b) : Fine (max a b) := by
  rcases max_choice a b with e | e <;> rw [e] <;> assumption
theorem fine_zero : Fine 0 := ⟨0, EReal.coe_zero.symm⟩

theorem Fine.sum {ι : Type} (s : Finset ι) (f : ι → EReal) (h : ∀ i ∈ s, Fine (f i)) : Fine (∑ i ∈ s, f i) := by
  classical
  induction s using Finset.induction_on with
  | empty => rw [Finset.sum_empty]; exact fine_zero
  | insert a s ha ih =>
    rw [Finset.sum_insert ha]
    exact (h a (Finset.mem_insert_self a s)).add (ih fun i hi => h i (Finset.mem_insert_of_mem hi))

theorem Fine.div {a : EReal} (h : Fine a) {r : ℝ} (hr : r ≠ 0) : Fine (Ideal.div a (r : EReal)) := by
  rw [Ideal.div_coe hr]; exact h.mul ⟨_, rfl⟩

theorem fine_mean {y : Fin 768 → EReal} (h : ∀ k, Fine (y k)) : Fine (mean y) := by
  rw [mean, wide_eq]; exact (Fine.sum _ _ fun k _ => h k).div (by norm_num)

theorem variance_nonneg {y : Fin 768 → EReal} (h : ∀ k, Fine (y k)) : ∃ r : ℝ, 0 ≤ r ∧ variance y = (r : EReal) := by
  have hs : Fine (∑ k, (y k - mean y) * (y k - mean y)) :=
    Fine.sum _ _ fun k _ => ((h k).sub (fine_mean h)).mul ((h k).sub (fine_mean h))
  have h0 : 0 ≤ ∑ k, (y k - mean y) * (y k - mean y) := by
    refine Finset.sum_nonneg fun k _ => ?_
    obtain ⟨r, e⟩ := (h k).sub (fine_mean h)
    rw [e, ← EReal.coe_mul]
    exact_mod_cast mul_self_nonneg r
  obtain ⟨r, e⟩ := hs
  rw [e] at h0
  refine ⟨r * (1 / 768), mul_nonneg (by exact_mod_cast h0) (by norm_num), ?_⟩
  rw [variance, e, wide_eq, Ideal.div_coe (by norm_num), ← EReal.coe_mul]

theorem fine_normed {y s b : Fin 768 → EReal} (h : ∀ k, Fine (y k)) (hs : ∀ k, Fine (s k)) (hb : ∀ k, Fine (b k)) (o : Fin 768) :
    Fine (normed y s b o) := by
  obtain ⟨r, hr, e⟩ := variance_nonneg h
  obtain ⟨q, hq, e'⟩ := small_eq
  have hp : (0 : ℝ) < r + q := by positivity
  have : Ideal.sqrt (variance y + small) = ((Real.sqrt (r + q) : ℝ) : EReal) := by
    rw [e, e', ← EReal.coe_add]
    show (if r + q < 0 then ⊥ else ((Real.sqrt (r + q) : ℝ) : EReal)) = _
    rw [if_neg hp.le.not_gt]
  rw [normed, this]
  exact ((((h o).sub (fine_mean h)).div (Real.sqrt_pos.2 hp).ne').mul (hs o)).add (hb o)

theorem proj_nonneg (xr tr : Fin 768 → EReal) (w : Fin 768 → Fin 1536 → EReal) (o : Fin 768) : 0 ≤ proj xr tr w o := le_max_right _ _

/-- A sum of numbers none of which is negative is infinite once one of them is. -/
theorem sum_top {y : Fin 768 → EReal} (h : ∀ k, 0 ≤ y k) {k : Fin 768} (hk : y k = ⊤) : ∑ k, y k = ⊤ := by
  have := Finset.single_le_sum (fun i _ => h i) (Finset.mem_univ k)
  rw [hk] at this
  exact top_le_iff.1 this

theorem div_wide_top : Ideal.div ⊤ wide = ⊤ := by
  rw [wide_eq, Ideal.div_coe (by norm_num), EReal.top_mul_coe_of_pos (by norm_num)]

/-- Of a row with an infinite feature every normalised feature is the bias: the variance is infinite. -/
theorem normed_top {y s b : Fin 768 → EReal} (h : ∀ k, 0 ≤ y k) {k : Fin 768} (hk : y k = ⊤) (o : Fin 768) : normed y s b o = b o := by
  have hm : mean y = ⊤ := by rw [mean, sum_top h hk, div_wide_top]
  have hd : ∀ j, y j - mean y = ⊥ := fun j => by rw [hm, sub_eq_add_neg, EReal.neg_top, EReal.add_bot]
  have hv : variance y = ⊤ := by
    rw [variance]
    simp only [hd, EReal.bot_mul_bot]
    rw [sum_top (y := fun _ => ⊤) (fun _ => le_top) (k := k) rfl, div_wide_top]
  have hs : Ideal.sqrt (variance y + small) = ⊤ := by
    obtain ⟨q, -, e⟩ := small_eq
    rw [hv, e, EReal.top_add_coe]
    rfl
  rw [normed, hd, hs, Ideal.div, if_neg EReal.top_ne_zero, EReal.inv_top, mul_zero, zero_mul, zero_add]

/-- Normalised features are finite, whatever the row. -/
theorem fine_normed_of_nonneg {y s b : Fin 768 → EReal} (h : ∀ k, 0 ≤ y k) (hs : ∀ k, Fine (s k)) (hb : ∀ k, Fine (b k)) (o : Fin 768) :
    Fine (normed y s b o) := by
  by_cases ht : ∃ k, y k = ⊤
  · obtain ⟨k, hk⟩ := ht
    rw [normed_top h hk]
    exact hb o
  · exact fine_normed (fun k => fine_of_ne (fun e => by have := h k; rw [e] at this; exact absurd (le_bot_iff.1 this) EReal.zero_ne_bot)
      fun e => ht ⟨k, e⟩) hs hb o

/-- What weighs the features in the logits is finite. -/
structure Net.Finite (N : Net) : Prop where
  ls : ∀ k, Fine (N.ls k)
  lb : ∀ k, Fine (N.lb k)
  wg : ∀ k e, Fine (N.wg k e)

theorem Net.Finite.logits {N : Net} (h : N.Finite) (b : Fin 2) (n : Fin 1024) (e : Fin 4) : Fine (N.logits b n e) := by
  unfold Net.logits logit Net.feat
  exact Fine.sum _ _ fun k _ => (fine_normed_of_nonneg (proj_nonneg _ _ _) h.ls h.lb k).mul (h.wg k e)

end Cert.Spec

end
-- ==== Proof.Net.lean ====
module

public import proofs.«01_k».proof.Proof.Spec

@[expose] public section

set_option maxRecDepth 16384

noncomputable section

namespace Cert.Spec

open Idealize.ShloMosaic Idealize.ShloMosaic.TcCoe Idealize.ShloMosaic.Tactic

/-! # The layer of the argument arrays -/

/-- The task number, a negative one counted from the end. -/
def wrapped (k : BitVec 32) : BitVec 32 := Scalar.select (Scalar.cmpi .slt k 0#32) (Scalar.addi k 3#32) k

/-- The task whose gating weights are used: the number wrapped, then clamped into the three tasks. -/
def taskRow (k : BitVec 32) : Fin 3 := ⟨(min (max (wrapped k).toInt 0) 2).toNat, by omega⟩

/-- The row of token `n` in the images. -/
def pixRow (n : Fin 1024) : Fin 32 := ⟨n.val / 32, by omega⟩
/-- The column of token `n` in the images. -/
def pixCol (n : Fin 1024) : Fin 32 := ⟨n.val % 32, by omega⟩

/-- The layer whose arrays are the arguments. -/
def netOf (a0 a1 : (⟨4, ![2, 768, 32, 32]⟩ : Shape).Idx → EReal) (a2 : (⟨2, ![768, 1536]⟩ : Shape).Idx → EReal)
    (a3 a4 : (⟨1, ![768]⟩ : Shape).Idx → EReal) (a5 : (⟨2, ![48, 768]⟩ : Shape).Idx → EReal) (a6 : (⟨1, ![48]⟩ : Shape).Idx → EReal)
    (a7 : (⟨2, ![768, 48]⟩ : Shape).Idx → EReal) (a8 : (⟨1, ![768]⟩ : Shape).Idx → EReal) (a9 : (⟨3, ![3, 768, 4]⟩ : Shape).Idx → EReal)
    (a10 : (⟨3, ![4, 384, 768]⟩ : Shape).Idx → EReal) (a11 : (⟨2, ![4, 384]⟩ : Shape).Idx → EReal)
    (a12 : (⟨3, ![4, 768, 384]⟩ : Shape).Idx → EReal) (a13 : (⟨2, ![4, 768]⟩ : Shape).Idx → EReal)
    (k : (⟨0, ![]⟩ : Shape).Idx → BitVec 32) : Net where
  x b n c := a0 (ix4 b c (pixRow n) (pixCol n))
  t b n c := a1 (ix4 b c (pixRow n) (pixCol n))
  w o j := a2 (ix2 o j)
  ls o := a3 (ix1 o)
  lb o := a4 (ix1 o)
  f1 h c := a5 (ix2 h c)
  c1 h := a6 (ix1 h)
  f2 c h := a7 (ix2 c h)
  c2 c := a8 (ix1 c)
  wg c e := a9 (ix3 (taskRow (k ix0)) c e)
  e1 e h c := a10 (ix3 e h c)
  b1 e h := a11 (ix2 e h)
  e2 e c h := a12 (ix3 e c h)
  b2 e c := a13 (ix2 e c)

theorem clampedStart_task (f : Fin 3 → Int) (k : BitVec 32) (h : f 0 = (wrapped k).toInt) :
    Host.clampedStart (⟨3, ![3, 768, 4]⟩ : Shape) (⟨3, ![1, 768, 4]⟩ : Shape) rfl f 0 = (taskRow k).val := by
  show (min (max (f 0) 0) _).toNat = (min (max (wrapped k).toInt 0) 2).toNat
  rw [h]; rfl

theorem clampedStart_one (f : Fin 3 → Int) :
    Host.clampedStart (⟨3, ![3, 768, 4]⟩ : Shape) (⟨3, ![1, 768, 4]⟩ : Shape) rfl f 1 = 0 := by
  show (min (max (f 1) 0) ((0 : ℕ) : ℤ)).toNat = 0
  omega

theorem clampedStart_two (f : Fin 3 → Int) :
    Host.clampedStart (⟨3, ![3, 768, 4]⟩ : Shape) (⟨3, ![1, 768, 4]⟩ : Shape) rfl f 2 = 0 := by
  show (min (max (f 2) 0) ((0 : ℕ) : ℤ)).toNat = 0
  omega

end Cert.Spec

end
-- ==== Proof.Ref.lean ====
module

public import proofs.«01_k».proof.Proof.Gen.ReferenceIdeal.Run
public import proofs.«01_k».proof.Proof.Net
public import Idealize.ShloMosaic.Lib.Pointwise

@[expose] public section

set_option maxRecDepth 16384

noncomputable section

namespace Cert.ReferenceIdeal.Value

open Idealize.ShloMosaic Idealize.ShloMosaic.TcCoe Idealize.ShloMosaic.Tactic
open Cert.Spec Cert.ReferenceIdeal.Gen

variable (V : Valuation τ sig (Elt Ideal))

/-! # The reference, read at an index -/

/-- The layer of the reference's arguments. -/
def rNet : Net :=
  netOf (V (Proc.devRef .tc main_arg0)) (V (Proc.devRef .tc main_arg1)) (V (Proc.devRef .tc main_arg2)) (V (Proc.devRef .tc main_arg3))
    (V (Proc.devRef .tc main_arg4)) (V (Proc.devRef .tc main_arg5)) (V (Proc.devRef .tc main_arg6)) (V (Proc.devRef .tc main_arg7))
    (V (Proc.devRef .tc main_arg8)) (V (Proc.devRef .tc main_arg9)) (V (Proc.devRef .tc main_arg10)) (V (Proc.devRef .tc main_arg11))
    (V (Proc.devRef .tc main_arg12)) (V (Proc.devRef .tc main_arg13)) (V (Proc.devRef .tc main_arg14))

/-- The batch row of row `i` of the flattened tokens. -/
def rowB (i : Fin 2048) : Fin 2 := ⟨i.val / 1024, by omega⟩
/-- Its token. -/
def rowN (i : Fin 2048) : Fin 1024 := ⟨i.val % 1024, by omega⟩

theorem v36_at (b : Fin 2) (n : Fin 1024) (o : Fin 768) :
    res_main_v36 (F := Ideal) V (ix3 b n o) = proj ((rNet V).x b n) ((rNet V).t b n) (rNet V).w o := by
  unfold proj rNet netOf pixRow pixCol
  pointwise [res_main_v36]

theorem var_count : wide - FloatOps.sitofp (F := Ideal) .f32 (0#32 : BitVec 32) = wide := by
  show wide - (((BitVec.toInt (0#32 : BitVec 32) : ℤ) : ℝ) : EReal) = wide
  rw [show BitVec.toInt (0#32 : BitVec 32) = 0 from by decide, Int.cast_zero, EReal.coe_zero, sub_zero]

theorem var_count' : four - FloatOps.sitofp (F := Ideal) .f32 (0#32 : BitVec 32) = four := by
  show four - (((BitVec.toInt (0#32 : BitVec 32) : ℤ) : ℝ) : EReal) = four
  rw [show BitVec.toInt (0#32 : BitVec 32) = 0 from by decide, Int.cast_zero, EReal.coe_zero, sub_zero]

theorem wide_pos : 0 < wide := by
  rw [wide_eq]; exact EReal.coe_pos.2 (by norm_num)

theorem four_pos : 0 < four := by
  rw [four_eq]; exact EReal.coe_pos.2 (by norm_num)

theorem v55_at (i : Fin 2048) (o : Fin 768) :
    res_main_v55 (F := Ideal) V (ix2 i o) = (rNet V).feat (rowB i) (rowN i) o := by
  unfold Net.feat normed variance mean
  pointwise [res_main_v55, res_main_call2_v5, res_main_call2_v8]
  simp only [v36_at]
  have hc : (Ideal.ofBits FTy.f32 1145044992#32 : EReal) - FloatOps.sitofp (F := Ideal) FTy.f32 (0#32 : BitVec 32) = wide := var_count
  simp only [hc]
  rw [if_pos wide_pos]
  rfl

/-- The gating weights the reference picks, as the layer's. -/
theorem pick_at (V : Valuation τ sig (Elt Ideal)) (f : Fin 3 → Int) (hf : f 0 = (wrapped ((V (Proc.devRef .tc main_arg14) : IVec S_ 32) ix0)).toInt)
    (k : Fin 768) (e : Fin 4) (h0 h1 h2) :
    (V (Proc.devRef .tc main_arg9) : S3x768x4.Idx → EReal) (ix3 ⟨Host.clampedStart (⟨3, ![3, 768, 4]⟩ : Shape) (⟨3, ![1, 768, 4]⟩ : Shape) rfl f 0, h0⟩
      ⟨Host.clampedStart (⟨3, ![3, 768, 4]⟩ : Shape) (⟨3, ![1, 768, 4]⟩ : Shape) rfl f 1 + k.val, h1⟩
      ⟨Host.clampedStart (⟨3, ![3, 768, 4]⟩ : Shape) (⟨3, ![1, 768, 4]⟩ : Shape) rfl f 2 + e.val, h2⟩) = (rNet V).wg k e := by
  refine congrArg (V (Proc.devRef .tc main_arg9) : S3x768x4.Idx → EReal) ((ix3_inj ..).2 ⟨Fin.ext ?_, Fin.ext ?_, Fin.ext ?_⟩)
  · exact clampedStart_task _ _ hf
  · exact (congrArg (· + k.val) (clampedStart_one _)).trans (Nat.zero_add _)
  · exact (congrArg (· + e.val) (clampedStart_two _)).trans (Nat.zero_add _)

theorem v67_at (i : Fin 2048) (e : Fin 4) :
    res_main_v67 (F := Ideal) V (ix2 i e) = (rNet V).logits (rowB i) (rowN i) e := by
  unfold Net.logits logit
  pointwise [res_main_v67]
  simp only [v55_at]
  refine Finset.sum_congr (M := EReal) rfl fun k _ => congrArg (fun z : EReal => (rNet V).feat (rowB i) (rowN i) k * z) ?_
  refine pick_at V _ ?_ k e _ _ _
  rw [show Shape.Idx.first h_S_ = ix0 from funext fun a => a.elim0]
  rfl

theorem pool_sum (x t : S2x768x32x32.Idx → EReal) (b : Fin 2) (k : Fin 768) :
    (∑ p : Fin 32, ∑ q : Fin 32, (x (ix4 b k p q) + t (ix4 b k p q))) = ∑ n, (x (ix4 b k (pixRow n) (pixCol n)) + t (ix4 b k (pixRow n) (pixCol n))) := by
  rw [Fin.sum_univ_tiles (N := 1024) 32 32 (by decide)]
  refine Finset.sum_congr rfl fun p _ => Finset.sum_congr rfl fun q _ => ?_
  have hp : pixRow ⟨p.val * 32 + q.val, by omega⟩ = p := Fin.ext (by show (p.val * 32 + q.val) / 32 = p.val; omega)
  have hq : pixCol ⟨p.val * 32 + q.val, by omega⟩ = q := Fin.ext (by show (p.val * 32 + q.val) % 32 = q.val; omega)
  simp only [hp, hq]

theorem v21_at (b : Fin 2) (c : Fin 768) :
    res_main_v21 (F := Ideal) V (ix4 b c 0 0) = (rNet V).mix b c := by
  unfold Net.mix squash Net.pooled rNet netOf
  simp only [← pool_sum]
  pointwise [res_main_v21]

end Cert.ReferenceIdeal.Value

end
-- ==== Proof.Routing.lean ====
module

public import proofs.«01_k».proof.Proof.Ref
public import Idealize.ShloMosaic.Lib.ScatterToDense.RefScatter
public import Idealize.ShloMosaic.Lib.ScatterToDense.Reading

@[expose] public section

set_option maxRecDepth 16384

noncomputable section

namespace Cert.ReferenceIdeal.Value

open Idealize.ShloMosaic Idealize.ShloMosaic.TcCoe Idealize.ShloMosaic.Tactic
open Cert.Spec Cert.ReferenceIdeal.Gen

/-! # The reference's gates -/

theorem slice_head (i : Fin 2048) (k : Fin 2) {α : Type} (x : S2048x4.Idx → α) (h : S2048x4.Slices (fun _ => 0) S2048x2) :
    extractStridedSlice S2048x2 (fun _ => 0) x h (ix2 i k) = x (ix2 i (k.castLE (by decide))) := by
  pointwise
  rfl

theorem along_col (i : Fin 2048) (e k : Fin 4) : (ix2 i e : S2048x4.Idx).along (1 : Fin 2) k = ix2 i k := by
  funext a
  match a with
  | 0 => rfl
  | 1 => rfl

/-- The sort's place for column `e` of row `i`. -/
theorem sort_place (x : S2048x4.Idx → EReal) (idx : S2048x4.Idx → BitVec 32) (i : Fin 2048) (e : Fin 4) :
    sortedFrom (fun k k' => (fun l r : EReal × BitVec 32 => FloatOps.cmpfTotal (F := Ideal) (φ := .f32) .gt l.1 r.1)
        (x ((ix2 i e : S2048x4.Idx).along (1 : Fin 2) k), idx ((ix2 i e : S2048x4.Idx).along (1 : Fin 2) k))
        (x ((ix2 i e : S2048x4.Idx).along (1 : Fin 2) k'), idx ((ix2 i e : S2048x4.Idx).along (1 : Fin 2) k')) == 1#1) e
      = sorted (fun e => x (ix2 i e)) e := by
  unfold sorted
  refine congrArg (fun f => sortedFrom f e) (funext fun k => funext fun k' => ?_)
  show (Ideal.cmp .ogt (x ((ix2 i e : S2048x4.Idx).along (1 : Fin 2) k)) (x ((ix2 i e : S2048x4.Idx).along (1 : Fin 2) k')) == 1#1) = _
  exact congrArg₂ (fun a b : S2048x4.Idx => Ideal.cmp .ogt (x a) (x b) == 1#1) (along_col i e k) (along_col i e k')

/-- The column numbers the sort carries along. -/
abbrev sortIota : S2048x4.Idx → BitVec 32 := fun i => if hd : 1 < S2048x4.rank then iotaInDim S2048x4 32 ⟨1, hd⟩ i else 0#32
/-- The sort's comparison. -/
abbrev sortCmp : EReal × BitVec 32 → EReal × BitVec 32 → BitVec 1 := fun l r => FloatOps.cmpfTotal (F := Ideal) (φ := .f32) .gt l.1 r.1

theorem topK_value (x : S2048x4.Idx → EReal) (h : S2048x4.Slices (fun _ => 0) S2048x2) (i : Fin 2048) (k : Fin 2) :
    (Host.topK S2048x2 1 (FloatOps.cmpfTotal (F := Ideal) (φ := .f32) .gt) x h).1 (ix2 i k)
      = x (ix2 i (sorted (fun e => x (ix2 i e)) (k.castLE (by decide)))) := by
  show extractStridedSlice S2048x2 (fun _ => 0) (Host.sort2 S2048x4 1 sortCmp x sortIota).1 h (ix2 i k) = _
  rw [slice_head]
  refine (congrArg x (along_col i _ _)).trans ?_
  exact congrArg (fun e => x (ix2 i e)) (sort_place x _ i _)

theorem topK_index (x : S2048x4.Idx → EReal) (h : S2048x4.Slices (fun _ => 0) S2048x2) (i : Fin 2048) (k : Fin 2) :
    (Host.topK S2048x2 1 (FloatOps.cmpfTotal (F := Ideal) (φ := .f32) .gt) x h).2 (ix2 i k)
      = BitVec.ofNat 32 (sorted (fun e => x (ix2 i e)) (k.castLE (by decide))).val := by
  show extractStridedSlice S2048x2 (fun _ => 0) (Host.sort2 S2048x4 1 sortCmp x sortIota).2 h (ix2 i k) = _
  rw [slice_head]
  exact congrArg (fun e : Fin 4 => BitVec.ofNat 32 e.val) (sort_place x _ i _)

variable (V : Valuation τ sig (Elt Ideal))

/-- The logits of row `i` of the flattened tokens. -/
abbrev rowLogits (i : Fin 2048) : Fin 4 → EReal := (rNet V).logits (rowB i) (rowN i)
/-- The place of its greatest logit, and of its next (`k = 0, 1`). -/
abbrev rowPlace (i : Fin 2048) (k : Fin 2) : Fin 4 := sorted (rowLogits V i) (k.castLE (by decide))

theorem values_at (i : Fin 2048) (k : Fin 2) : res_main_values (F := Ideal) V (ix2 i k) = rowLogits V i (rowPlace V i k) := by
  unfold res_main_values
  refine (topK_value _ _ i k).trans ((v67_at V i _).trans ?_)
  exact congrArg (fun l => rowLogits V i (sorted l (k.castLE (by decide)))) (funext fun e => v67_at V i e)

theorem indices_at (i : Fin 2048) (k : Fin 2) : res_main_indices (F := Ideal) V (ix2 i k) = BitVec.ofNat 32 (rowPlace V i k).val := by
  unfold res_main_indices
  refine (topK_index _ _ i k).trans ?_
  exact congrArg (fun l => BitVec.ofNat 32 (sorted l (k.castLE (by decide))).val) (funext fun e => v67_at V i e)

/-- The exponentials of the softmax, over the two values kept. -/
theorem exp_at (x : FVec Ideal S2048x2 .f32) (i : Fin 2048) (k : Fin 2) :
    Host.exp (subf x (broadcastInDim S2048x2 ![0, 1] bcast_S2048x1_S2048x2_0_1 (broadcastInDim S2048x1 ![0] bcast_S2048_S2048x1_0 (maximumf (broadcastInDim S2048 ![] bcast_S_S2048 (constant S_ .f32 0xFF800000#32)) (Host.reduce FloatOps.maximumf x (constant S_ .f32 0xFF800000#32) reducesTo_S2048x2_S2048_d1 h_S_))))) (ix2 i k)
      = Ideal.exp ((x (ix2 i k) : EReal) - max (x (ix2 i 0) : EReal) (x (ix2 i 1))) := by
  pointwise
  have hm : Finset.fold max (Ideal.ofBits FTy.f32 4286578688#32 : EReal) (fun j : Fin 2 => (x (ix2 i j) : EReal)) Finset.univ = max (x (ix2 i 0) : EReal) (x (ix2 i 1)) := by
    rw [show (Finset.univ : Finset (Fin 2)) = {0, 1} from rfl, Finset.fold_insert (by decide), Finset.fold_singleton]
    rw [show (Ideal.ofBits FTy.f32 4286578688#32 : EReal) = ⊥ from negInf_eq, max_bot_right]
  rw [hm, show (Ideal.ofBits FTy.f32 4286578688#32 : EReal) = ⊥ from negInf_eq, max_bot_left]

theorem share_at (y : FVec Ideal S2048x2 .f32) (i : Fin 2048) (k : Fin 2) :
    Host.divf y (broadcastInDim S2048x2 ![0, 1] bcast_S2048x1_S2048x2_0_1 (broadcastInDim S2048x1 ![0] bcast_S2048_S2048x1_0 (Host.reduceAdd y (constant S_ .f32 0x00000000#32) reducesTo_S2048x2_S2048_d1 h_S_))) (ix2 i k)
      = Ideal.div (y (ix2 i k)) ((y (ix2 i 0) : EReal) + y (ix2 i 1)) := by
  pointwise
  rw [Fin.sum_univ_two]

/-- The weight of the greatest logit (`k = 0`) and of the next (`k = 1`). -/
def rowShare (i : Fin 2048) (k : Fin 2) : EReal :=
  Ideal.div (Ideal.exp (rowLogits V i (rowPlace V i k) - max (rowLogits V i (rowPlace V i 0)) (rowLogits V i (rowPlace V i 1))))
    (Ideal.exp (rowLogits V i (rowPlace V i 0) - max (rowLogits V i (rowPlace V i 0)) (rowLogits V i (rowPlace V i 1)))
      + Ideal.exp (rowLogits V i (rowPlace V i 1) - max (rowLogits V i (rowPlace V i 0)) (rowLogits V i (rowPlace V i 1))))

theorem v74_at (i : Fin 2048) (k : Fin 2) : res_main_v74 (F := Ideal) V (ix2 i k)
    = Ideal.exp (rowLogits V i (rowPlace V i k) - max (rowLogits V i (rowPlace V i 0)) (rowLogits V i (rowPlace V i 1))) := by
  refine (exp_at (res_main_values (F := Ideal) V) i k).trans ?_
  simp only [values_at]

/-- The two weights of a row as the reference scatters them. -/
abbrev shares : FVec Ideal S2048x2 .f32 :=
  Host.divf (res_main_v74 (F := Ideal) V) (broadcastInDim S2048x2 ![0, 1] bcast_S2048x1_S2048x2_0_1 (broadcastInDim S2048x1 ![0] bcast_S2048_S2048x1_0 (Host.reduceAdd (res_main_v74 (F := Ideal) V) (constant S_ .f32 0x00000000#32) reducesTo_S2048x2_S2048_d1 h_S_)))

theorem shares_at (i : Fin 2048) (k : Fin 2) : shares V (ix2 i k) = rowShare V i k := by
  refine (share_at (res_main_v74 (F := Ideal) V) i k).trans ?_
  simp only [v74_at]
  rfl

/-- The rows and columns the reference scatters to. -/
abbrev targets : IVec S2048x2x2 32 :=
  concatenate S2048x2x2 2 [⟨S2048x2x1, (broadcastInDim S2048x2x1 ![0, 1] bcast_S2048x2_S2048x2x1_0_1 (broadcastInDim S2048x2 ![0, 1] bcast_S2048x1_S2048x2_0_1 (select (cmpi .slt (res_main_v81 (F := Ideal) V) (broadcastInDim S2048x1 ![] bcast_S_S2048x1 (constantI S_ 32 0#32))) (addi (res_main_v81 (F := Ideal) V) (broadcastInDim S2048x1 ![] bcast_S_S2048x1 (constantI S_ 32 2048#32))) (res_main_v81 (F := Ideal) V))))⟩, ⟨S2048x2x1, (broadcastInDim S2048x2x1 ![0, 1] bcast_S2048x2_S2048x2x1_0_1 (select (cmpi .slt (res_main_indices (F := Ideal) V) (broadcastInDim S2048x2 ![] bcast_S_S2048x2 (constantI S_ 32 0#32))) (addi (res_main_indices (F := Ideal) V) (broadcastInDim S2048x2 ![] bcast_S_S2048x2 (constantI S_ 32 4#32))) (res_main_indices (F := Ideal) V)))⟩] concatenates_S2048x2x1_S2048x2x1_S2048x2x2_d2

/-- A word below `2³¹` is not negative: the reference leaves it as it is. -/
theorem not_wrapped (n : ℕ) (hn : n < 2 ^ 31) (y : BitVec 32) :
    Scalar.select (IntOp.cmpi .slt (BitVec.ofNat 32 n) 0#32) y (BitVec.ofNat 32 n) = BitVec.ofNat 32 n := by
  have e : (BitVec.ofNat 32 n).toNat = n := by rw [BitVec.toNat_ofNat]; exact Nat.mod_eq_of_lt (by omega)
  rw [WordCmp.cmpi_slt_zero, WordCmp.select_decide, if_neg (by omega)]

theorem targets_row (i : Fin 2048) (k : Fin 2) : targets V (ix3 i k 0) = BitVec.ofNat 32 i.val := by
  pointwise [targets, res_main_v81]
  exact not_wrapped _ (by omega) _

theorem targets_col (i : Fin 2048) (k : Fin 2) : targets V (ix3 i k 1) = BitVec.ofNat 32 (rowPlace V i k).val := by
  pointwise [targets]
  simp only [indices_at]
  exact not_wrapped _ (by omega) _

theorem ofNat_place (e : Fin 4) : (BitVec.ofNat 32 e.val).toNat = e.val := by
  rw [BitVec.toNat_ofNat]; exact Nat.mod_eq_of_lt (by omega)

/-- Two candidates of a row, scattered to different columns. -/
theorem dense_two (w : S2048x2.Idx → BitVec 32) (x : S2048x2.Idx → EReal) (q : Fin 2048 → Fin 2 → Fin 4) (hw : ∀ i k, w (ix2 i k) = BitVec.ofNat 32 (q i k).val)
    (i : Fin 2048) (hne : q i 1 ≠ q i 0) (e : Fin 4) :
    ScatterToDense.dense (T := 2048) (C := 4) (K := 2) (by decide) w x (0 : EReal) (ix2 i e)
      = (if e = q i 0 then x (ix2 i 0) else 0) + (if e = q i 1 then x (ix2 i 1) else 0) := by
  have hq : ∀ k, e.val = (w (ix2 i k)).toNat ↔ e = q i k := fun k => by
    rw [hw, ofNat_place]; exact Fin.ext_iff.symm
  rcases ScatterToDense.dense_lastWinsU (T := 2048) (C := 4) (K := 2) (by decide) w x (0 : EReal) i e with ⟨k, hk, hl, hv⟩ | ⟨hn, hv⟩
  · have hk' : e = q i k := (hq k).1 hk
    refine hv.trans ?_
    match k with
    | 0 => rw [if_pos hk', if_neg (fun h => hne (h.symm.trans hk')), add_zero]; rfl
    | 1 => rw [if_pos hk', if_neg (fun h => hne (hk'.symm.trans h)), zero_add]; rfl
  · refine hv.trans ?_
    have h0 : ∀ k, e ≠ q i k := fun k h => hn k ((hq k).2 h)
    rw [if_neg (h0 0), if_neg (h0 1), add_zero]

/-- The places as words. -/
def placeWords : S2048x2.Idx → BitVec 32 := fun z => BitVec.ofNat 32 (rowPlace V (z 0 : Fin 2048) (z 1 : Fin 2)).val

theorem v96_cases (i : Fin 2048) (e : Fin 4) : res_main_v96 (F := Ideal) V (ix2 i e)
    = (if e = rowPlace V i 0 then rowShare V i 0 else 0) + (if e = rowPlace V i 1 then rowShare V i 1 else 0) := by
  have hne : rowPlace V i 1 ≠ rowPlace V i 0 := (sorted_second (rowLogits V i)).1
  have hd : res_main_v96 (F := Ideal) V (ix2 i e)
      = ScatterToDense.dense (T := 2048) (C := 4) (K := 2) (by decide) (placeWords V) (shares V) (0 : EReal) (ix2 i e) := by
    unfold res_main_v96
    refine ScatterToDense.scatter_eq_dense (by decide) scatter_S2048x4_S2048x2x2_S2048x2_n_01_01_2 rfl rfl rfl (by decide) (by decide) _ (targets V) (shares V) _ _ _ ?_ ?_ ?_ ?_ _
    · intro z
      exact Ideal.ofBits_zero_f32
    · exact targets_row V
    · intro i k c hc
      exact Iff.of_eq (congrArg (fun w : BitVec 32 => c = w.toNat) (targets_col V i k))
    · exact fun _ _ => rfl
  rw [hd, dense_two (placeWords V) (shares V) (rowPlace V) (fun _ _ => rfl) i hne e, shares_at, shares_at]

/-- The reference's gates are the layer's, where the logits are numbers. -/
theorem v96_at (hf : ∀ b n e, Fine ((rNet V).logits b n e)) (i : Fin 2048) (e : Fin 4) :
    res_main_v96 (F := Ideal) V (ix2 i e) = (rNet V).gates (rowB i) (rowN i) e := by
  rw [v96_cases]
  unfold Net.gates
  have h1 := sorted_first (rowLogits V i)
  have h2 := sorted_second (rowLogits V i)
  rw [gate_eq h1 h2 (fun k => (hf (rowB i) (rowN i) k).ne_bot) e]
  obtain ⟨s0, s1⟩ := softmax_two (a := rowLogits V i (rowPlace V i 0)) (b := rowLogits V i (rowPlace V i 1)) (h1.le _) (hf (rowB i) (rowN i) _).ne_top (hf (rowB i) (rowN i) _).ne_bot
  unfold rowShare
  rw [s0, s1]
  rfl

end Cert.ReferenceIdeal.Value

end
-- ==== Proof.RefOut.lean ====
module

public import proofs.«01_k».proof.Proof.Routing

@[expose] public section

set_option maxRecDepth 16384

noncomputable section

namespace Cert.ReferenceIdeal.Value

open Idealize.ShloMosaic Idealize.ShloMosaic.TcCoe Idealize.ShloMosaic.Tactic
open Cert.Spec Cert.ReferenceIdeal.Gen

/-! # The reference's two results -/

/-- A sum over the flattened tokens is the two batch rows' sums. -/
theorem sum_rows (f : Fin 2 → Fin 1024 → EReal) : ∑ i : Fin 2048, f (rowB i) (rowN i) = ∑ n, f 0 n + ∑ n, f 1 n := by
  rw [Fin.sum_univ_tiles (N := 2048) 2 1024 (by decide), Fin.sum_univ_two]
  refine congrArg₂ (· + ·) (Finset.sum_congr rfl fun n _ => ?_) (Finset.sum_congr rfl fun n _ => ?_)
  · exact congrArg₂ f (Fin.ext (by show (0 * 1024 + n.val) / 1024 = 0; omega)) (Fin.ext (by show (0 * 1024 + n.val) % 1024 = n.val; omega))
  · exact congrArg₂ f (Fin.ext (by show (1 * 1024 + n.val) / 1024 = 1; omega)) (Fin.ext (by show (1 * 1024 + n.val) % 1024 = n.val; omega))

/-- A truth value read as a number is one or zero. -/
theorem count_one (a : EReal) : (FloatOps.uitofp (F := Ideal) .f32 (BitVec.ofBool (decide (0 < a))) : EReal) = if 0 < a then 1 else 0 := by
  by_cases h : 0 < a
  · rw [if_pos h, decide_eq_true h]
    show (((BitVec.toNat (BitVec.ofBool true) : ℕ) : ℝ) : EReal) = 1
    rw [show BitVec.toNat (BitVec.ofBool true) = 1 from by decide, Nat.cast_one, EReal.coe_one]
  · rw [if_neg h, decide_eq_false h]
    show (((BitVec.toNat (BitVec.ofBool false) : ℕ) : ℝ) : EReal) = 0
    rw [show BitVec.toNat (BitVec.ofBool false) = 0 from by decide, Nat.cast_zero, EReal.coe_zero]

/-- The second layer's products may be taken in either order. -/
theorem mixed_swap (g b2 : Fin 4 → EReal) (w2 a : Fin 4 → Fin 384 → EReal) (r : EReal) :
    ∑ e, g e * (∑ h, w2 e h * a e h + b2 e) + r = ∑ e, g e * (∑ h, a e h * w2 e h + b2 e) + r := by
  simp only [mul_comm (w2 _ _)]

theorem rowB_row (b : Fin 2) (n : ℕ) (hn : n < 1024) (h : b.val * 1024 + n < 2048) : rowB ⟨b.val * 1024 + n, h⟩ = b :=
  Fin.ext (by show (b.val * 1024 + n) / 1024 = b.val; omega)

theorem rowN_row (b : Fin 2) (n : ℕ) (hn : n < 1024) (h : b.val * 1024 + n < 2048) : rowN ⟨b.val * 1024 + n, h⟩ = ⟨n, hn⟩ :=
  Fin.ext (by show (b.val * 1024 + n) % 1024 = n; omega)

theorem pixRow_at (p q : Fin 32) (h : p.val * 32 + q.val < 1024) : pixRow ⟨p.val * 32 + q.val, h⟩ = p :=
  Fin.ext (by show (p.val * 32 + q.val) / 32 = p.val; omega)

theorem pixCol_at (p q : Fin 32) (h : p.val * 32 + q.val < 1024) : pixCol ⟨p.val * 32 + q.val, h⟩ = q :=
  Fin.ext (by show (p.val * 32 + q.val) % 32 = q.val; omega)

variable (V : Valuation τ sig (Elt Ideal))

section finite

variable (hf : ∀ b n e, Fine ((rNet V).logits b n e))
include hf

theorem v97_at (e : Fin 4) : res_main_v97 (F := Ideal) V (ix1 e) = (rNet V).imp 0 e + (rNet V).imp 1 e := by
  unfold Net.imp
  rw [← sum_rows fun b n => (rNet V).gates b n e]
  pointwise [res_main_v97]
  simp only [v96_at V hf]

theorem v101_at (e : Fin 4) : res_main_v101 (F := Ideal) V (ix1 e) = (rNet V).load 0 e + (rNet V).load 1 e := by
  unfold Net.load
  rw [← sum_rows fun b n => if 0 < (rNet V).gates b n e then (1 : EReal) else 0]
  pointwise [res_main_v101]
  simp only [v96_at V hf, count_one]

theorem aux_at : (val3 (F := Ideal) V (Proc.devRef .tc main_v115) : S_.Idx → EReal) ix0 = (rNet V).aux := by
  refine (congrFun (val3_main_v115 (F := Ideal) V) ix0).trans ?_
  unfold Net.aux cv
  pointwise [res_main_call3_v8, res_main_call3_v5, res_main_v104, res_main_call4_v8, res_main_call4_v5, res_main_v110]
  have hc : (Ideal.ofBits FTy.f32 1082130432#32 : EReal) - FloatOps.sitofp (F := Ideal) FTy.f32 (0#32 : BitVec 32) = four := var_count'
  simp only [v97_at V hf, v101_at V hf, hc]
  rw [if_pos four_pos, if_pos four_pos]

theorem out_at (b : Fin 2) (c : Fin 768) (p q : Fin 32) :
    (val3 (F := Ideal) V (Proc.devRef .tc main_v133) : S2x768x32x32.Idx → EReal) (ix4 b c p q) = (rNet V).out b ⟨p.val * 32 + q.val, by omega⟩ c := by
  refine (congrFun (val3_main_v133 (F := Ideal) V) (ix4 b c p q)).trans ?_
  unfold Net.out Net.part Net.fused expert
  pointwise
  simp only [v96_at V hf, v55_at, v21_at]
  simp only [rowB_row b (p.val * 32 + q.val) (by omega), rowN_row b (p.val * 32 + q.val) (by omega)]
  have hx : (rNet V).x b ⟨p.val * 32 + q.val, by omega⟩ c = (V (Proc.devRef .tc main_arg0) : S2x768x32x32.Idx → EReal) (ix4 b c p q) := by
    show (V (Proc.devRef .tc main_arg0) : S2x768x32x32.Idx → EReal) (ix4 b c (pixRow _) (pixCol _)) = _
    rw [pixRow_at, pixCol_at]
  have ht : (rNet V).t b ⟨p.val * 32 + q.val, by omega⟩ c = (V (Proc.devRef .tc main_arg1) : S2x768x32x32.Idx → EReal) (ix4 b c p q) := by
    show (V (Proc.devRef .tc main_arg1) : S2x768x32x32.Idx → EReal) (ix4 b c (pixRow _) (pixCol _)) = _
    rw [pixRow_at, pixCol_at]
  rw [hx, ht]
  exact mixed_swap _ _ (fun e h => (rNet V).e2 e c h) _ _

end finite

end Cert.ReferenceIdeal.Value

end
-- ==== Proof.Blocks.lean ====
module

public import proofs.«01_k».proof.Proof.Launched
public import proofs.«01_k».proof.Proof.Net
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)
open Cert.Spec

variable (m : (ℓ : Loc nD τ sig) → Buf (Elt Ideal) ℓ)

/-! # The blocks a grid point reads, as the argument arrays -/

/-- The layer of the arguments as launched. -/
def kNet (c : Dev nD) : Net :=
  netOf (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))

/-- The batch row of a point. -/
def rowOf (t : Fin cfg0.N) : Fin 2 := ⟨t.val / 5, by have := Nat.lt_of_lt_of_eq t.isLt N_0; omega⟩

theorem idxA : ∀ t : Fin cfg0.N, win0_0.index t = ![t.val / 5, 0, 0] ∧ win0_1.index t = ![t.val / 5, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

theorem idxB : ∀ t : Fin cfg0.N, win0_10.index t = ![t.val % 5 - 1, 0, 0] ∧ win0_11.index t = ![t.val % 5 - 1, 0, 0]
    ∧ win0_12.index t = ![t.val % 5 - 1, 0, 0] ∧ win0_13.index t = ![t.val % 5 - 1, 0, 0] :=
  (by decide +kernel : ∀ t : Fin grid0.N, _)

theorem entry_v1 (c : Dev nD) : V m c main_v1 = shapeCast S2x1024x768 (transpose S2x32x32x768 [0, 2, 3, 1] (m ((c : Thread nD τ).loc main_arg0)) transposes_S2x768x32x32_S2x32x32x768_0_2_3_1) shapeCasts_S2x32x32x768_S2x1024x768 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem entry_v3 (c : Dev nD) : V m c main_v3 = shapeCast S2x1024x768 (transpose S2x32x32x768 [0, 2, 3, 1] (m ((c : Thread nD τ).loc main_arg1)) transposes_S2x768x32x32_S2x32x32x768_0_2_3_1) shapeCasts_S2x32x32x768_S2x1024x768 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

/-- The last two of the operations that pick a task's gating weights. -/
abbrev pickOps : List (HloOp τ sig (Elt Ideal)) :=
  [ StableHlo.TRef.unaryIndexed (.of main_arg9 : StableHlo.TRef sig ⟨S3x768x4, .f32⟩) ![(.of main_call0_v2 : StableHlo.TRef sig ⟨S_, .i32⟩), (.of main_call0_c_1 : StableHlo.TRef sig ⟨S_, .i32⟩), (.of main_call0_c_2 : StableHlo.TRef sig ⟨S_, .i32⟩)] (.of main_call0_v3 : StableHlo.TRef sig ⟨S1x768x4, .f32⟩) (fun x i => Host.dynamicSlice S1x768x4 x (fun k => (i k (Shape.Idx.first h_S_)).toInt) sliceFits_S3x768x4_S1x768x4),
    StableHlo.TRef.reshape (.of main_call0_v3 : StableHlo.TRef sig ⟨S1x768x4, .f32⟩) (.of main_v4 : StableHlo.TRef sig ⟨S768x4, .f32⟩) (rfl : (.f32 : EltTy) = .f32) shapeCasts_S1x768x4_S768x4 ]

theorem after_pick (W : Valuation τ sig (Elt Ideal)) : StableHlo.after pickOps W (Proc.devRef .tc main_v4)
    = shapeCast S768x4 (Host.dynamicSlice S1x768x4 (W (Proc.devRef .tc main_arg9))
        (fun k => ((![W (Proc.devRef .tc main_call0_v2), W (Proc.devRef .tc main_call0_c_1), W (Proc.devRef .tc main_call0_c_2)] : Fin 3 → IVec S_ 32) k (Shape.Idx.first h_S_)).toInt)
        sliceFits_S3x768x4_S1x768x4) shapeCasts_S1x768x4_S768x4 := by
  simp only [StableHlo.after_cons, StableHlo.after_nil]
  after_results_simp
  refine congrArg (fun f : Fin 3 → Int => shapeCast S768x4 (Host.dynamicSlice S1x768x4 (W (Proc.devRef .tc main_arg9)) f sliceFits_S3x768x4_S1x768x4) shapeCasts_S1x768x4_S768x4) (funext fun k => ?_)
  match k with
  | 0 => rfl
  | 1 => rfl
  | 2 => rfl

/-- The operations before them. -/
abbrev earlyOps : List (HloOp τ sig (Elt Ideal)) := hostOps0 ++ hostOps0_1.take 7

theorem after_split : ∀ (l₁ l₂ : List (HloOp τ sig (Elt Ideal))) (W : Valuation τ sig (Elt Ideal)),
    StableHlo.after (l₁ ++ l₂) W = StableHlo.after l₂ (StableHlo.after l₁ W)
  | [], _, _ => rfl
  | _ :: l₁, l₂, W => after_split l₁ l₂ _

theorem early_arg9 (c : Dev nD) : StableHlo.after earlyOps (fun b => m (c, b)) (Proc.devRef .tc main_arg9) = m ((c : Thread nD τ).loc main_arg9) := by
  simp only [earlyOps, hostOps0, hostOps0_1, List.take_succ_cons, List.take_zero, List.cons_append, List.nil_append]
  entry_read
  rfl

theorem early_v2 (c : Dev nD) : StableHlo.after earlyOps (fun b => m (c, b)) (Proc.devRef .tc main_call0_v2)
    = select (cmpi .slt (m ((c : Thread nD τ).loc main_arg14)) (constantI S_ 32 0#32)) (addi (m ((c : Thread nD τ).loc main_arg14)) (constantI S_ 32 3#32)) (m ((c : Thread nD τ).loc main_arg14)) := by
  simp only [earlyOps, hostOps0, hostOps0_1, List.take_succ_cons, List.take_zero, List.cons_append, List.nil_append]
  entry_read
  rfl

theorem entry_v4 (c : Dev nD) : ∃ f : Fin 3 → Int, f 0 = (wrapped ((m ((c : Thread nD τ).loc main_arg14) : IVec S_ 32) ix0)).toInt
    ∧ V m c main_v4 = shapeCast S768x4 (Host.dynamicSlice S1x768x4 (m ((c : Thread nD τ).loc main_arg9)) f sliceFits_S3x768x4_S1x768x4) shapeCasts_S1x768x4_S768x4 := by
  have e : V m c main_v4 = StableHlo.after pickOps (StableHlo.after earlyOps (fun b => m (c, b))) (Proc.devRef .tc main_v4) := by
    show StableHlo.after ((earlyOps ++ pickOps) ++ hostOps0_2) (fun b => m (c, b)) (Proc.devRef .tc main_v4) = _
    rw [after_split, after_split]
    exact StableHlo.after_of_forall_not_mem (b := Proc.devRef .tc main_v4) _ _ (List.forall_iff_forall_mem.mp (by
      simp only [hostOps0_2, List.Forall, StableHlo.reshape_writes, Finset.mem_singleton]
      repeat' apply And.intro
      all_goals exact StableHlo.devRef_ne_of_ne (by decide)))
  refine ⟨fun k => ((![StableHlo.after earlyOps (fun b => m (c, b)) (Proc.devRef .tc main_call0_v2), StableHlo.after earlyOps (fun b => m (c, b)) (Proc.devRef .tc main_call0_c_1),
    StableHlo.after earlyOps (fun b => m (c, b)) (Proc.devRef .tc main_call0_c_2)] : Fin 3 → IVec S_ 32) k (Shape.Idx.first h_S_)).toInt, ?_, e.trans ((after_pick _).trans ?_)⟩
  rotate_left
  · rw [early_arg9]; rfl
  · show BitVec.toInt ((StableHlo.after earlyOps (fun b => m (c, b)) (Proc.devRef .tc main_call0_v2) : IVec S_ 32) (Shape.Idx.first h_S_)) = _
    rw [early_v2, show Shape.Idx.first h_S_ = ix0 from funext fun a => a.elim0]
    rfl

theorem entry_v5 (c : Dev nD) : V m c main_v5 = shapeCast S1x768 (m ((c : Thread nD τ).loc main_arg3)) shapeCasts_S768_S1x768 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem entry_v6 (c : Dev nD) : V m c main_v6 = shapeCast S1x768 (m ((c : Thread nD τ).loc main_arg4)) shapeCasts_S768_S1x768 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem entry_v7 (c : Dev nD) : V m c main_v7 = shapeCast S1x48 (m ((c : Thread nD τ).loc main_arg6)) shapeCasts_S48_S1x48 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem entry_v8 (c : Dev nD) : V m c main_v8 = shapeCast S1x768 (m ((c : Thread nD τ).loc main_arg8)) shapeCasts_S768_S1x768 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem entry_v9 (c : Dev nD) : V m c main_v9 = shapeCast S4x1x384 (m ((c : Thread nD τ).loc main_arg11)) shapeCasts_S4x384_S4x1x384 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem entry_v10 (c : Dev nD) : V m c main_v10 = shapeCast S4x1x768 (m ((c : Thread nD τ).loc main_arg13)) shapeCasts_S4x768_S4x1x768 := by
  show StableHlo.after (List.flatten [hostOps0, hostOps0_1, hostOps0_2]) (fun b => m (c, b)) _ = _
  simp only [hostOps0, hostOps0_1, hostOps0_2, List.flatten_cons, List.flatten_nil, List.append_nil, List.cons_append, List.nil_append]
  entry_read
  try rfl

theorem blk0 (c : Dev nD) (t : Fin cfg0.N) (n : Fin 1024) (k : Fin 768) : (iblk m c 0 t : S1x1024x768.Idx → EReal) (ix3 0 n k) = (kNet m c).x (rowOf t) n k := by
  have e : (iblk m c 0 t : S1x1024x768.Idx → EReal) (ix3 0 n k) = V m c main_v1 (ix3 (rowOf t) n k) := by
    unfold rowOf
    blk_ext [iblk, idxA t]
  rw [e]
  rw [entry_v1]
  unfold kNet netOf pixRow pixCol
  pointwise

theorem blk1 (c : Dev nD) (t : Fin cfg0.N) (n : Fin 1024) (k : Fin 768) : (iblk m c 1 t : S1x1024x768.Idx → EReal) (ix3 0 n k) = (kNet m c).t (rowOf t) n k := by
  have e : (iblk m c 1 t : S1x1024x768.Idx → EReal) (ix3 0 n k) = V m c main_v3 (ix3 (rowOf t) n k) := by
    unfold rowOf
    blk_ext [iblk, idxA t]
  rw [e]
  rw [entry_v3]
  unfold kNet netOf pixRow pixCol
  pointwise

theorem blk2 (c : Dev nD) (t : Fin cfg0.N) (n : Fin 768) (k : Fin 1536) : (iblk m c 2 t : S768x1536.Idx → EReal) (ix2 n k) = (kNet m c).w n k := by
  have e : (iblk m c 2 t : S768x1536.Idx → EReal) (ix2 n k) = V m c main_arg2 (ix2 n k) := by
    blk_ext [iblk, idxA t]
  rw [e]
  rfl

theorem blk3 (c : Dev nD) (t : Fin cfg0.N) (k : Fin 768) : (iblk m c 3 t : S1x768.Idx → EReal) (ix2 0 k) = (kNet m c).ls k := by
  have e : (iblk m c 3 t : S1x768.Idx → EReal) (ix2 0 k) = V m c main_v5 (ix2 0 k) := by
    blk_ext [iblk, idxA t]
  rw [e]
  rw [entry_v5]
  unfold kNet netOf pixRow pixCol
  pointwise

theorem blk4 (c : Dev nD) (t : Fin cfg0.N) (k : Fin 768) : (iblk m c 4 t : S1x768.Idx → EReal) (ix2 0 k) = (kNet m c).lb k := by
  have e : (iblk m c 4 t : S1x768.Idx → EReal) (ix2 0 k) = V m c main_v6 (ix2 0 k) := by
    blk_ext [iblk, idxA t]
  rw [e]
  rw [entry_v6]
  unfold kNet netOf pixRow pixCol
  pointwise

theorem blk5 (c : Dev nD) (t : Fin cfg0.N) (n : Fin 768) (k : Fin 4) : (iblk m c 5 t : S768x4.Idx → EReal) (ix2 n k) = (kNet m c).wg n k := by
  have e : (iblk m c 5 t : S768x4.Idx → EReal) (ix2 n k) = V m c main_v4 (ix2 n k) := by
    blk_ext [iblk, idxA t]
  rw [e]
  obtain ⟨f, hf, h⟩ := entry_v4 m c
  rw [h]
  unfold kNet netOf
  pointwise
  refine congrArg (m ((c : Thread nD τ).loc main_arg9) : S3x768x4.Idx → EReal) ((ix3_inj ..).2 ⟨Fin.ext ?_, Fin.ext ?_, Fin.ext ?_⟩)
  · exact clampedStart_task f _ hf
  · exact (congrArg (· + n.val) (clampedStart_one f)).trans (Nat.zero_add _)
  · exact (congrArg (· + k.val) (clampedStart_two f)).trans (Nat.zero_add _)

theorem blk6 (c : Dev nD) (t : Fin cfg0.N) (n : Fin 48) (k : Fin 768) : (iblk m c 6 t : S48x768.Idx → EReal) (ix2 n k) = (kNet m c).f1 n k := by
  have e : (iblk m c 6 t : S48x768.Idx → EReal) (ix2 n k) = V m c main_arg5 (ix2 n k) := by
    blk_ext [iblk, idxA t]
  rw [e]
  rfl

theorem blk7 (c : Dev nD) (t : Fin cfg0.N) (k : Fin 48) : (iblk m c 7 t : S1x48.Idx → EReal) (ix2 0 k) = (kNet m c).c1 k := by
  have e : (iblk m c 7 t : S1x48.Idx → EReal) (ix2 0 k) = V m c main_v7 (ix2 0 k) := by
    blk_ext [iblk, idxA t]
  rw [e]
  rw [entry_v7]
  unfold kNet netOf pixRow pixCol
  pointwise

theorem blk8 (c : Dev nD) (t : Fin cfg0.N) (n : Fin 768) (k : Fin 48) : (iblk m c 8 t : S768x48.Idx → EReal) (ix2 n k) = (kNet m c).f2 n k := by
  have e : (iblk m c 8 t : S768x48.Idx → EReal) (ix2 n k) = V m c main_arg7 (ix2 n k) := by
    blk_ext [iblk, idxA t]
  rw [e]
  rfl

theorem blk9 (c : Dev nD) (t : Fin cfg0.N) (k : Fin 768) : (iblk m c 9 t : S1x768.Idx → EReal) (ix2 0 k) = (kNet m c).c2 k := by
  have e : (iblk m c 9 t : S1x768.Idx → EReal) (ix2 0 k) = V m c main_v8 (ix2 0 k) := by
    blk_ext [iblk, idxA t]
  rw [e]
  rw [entry_v8]
  unfold kNet netOf pixRow pixCol
  pointwise

theorem blk10 (c : Dev nD) (t : Fin cfg0.N) (h : t.val % 5 ≠ 0) (n : Fin 384) (k : Fin 768) : (iblk m c 10 t : S1x384x768.Idx → EReal) (ix3 0 n k) = (kNet m c).e1 (expertIdx t.val) n k := by
  have e : (iblk m c 10 t : S1x384x768.Idx → EReal) (ix3 0 n k) = V m c main_arg10 (ix3 (expertIdx t.val) n k) := by
    unfold expertIdx
    blk_ext [iblk, idxB t]
  rw [e]
  rfl

theorem blk11 (c : Dev nD) (t : Fin cfg0.N) (h : t.val % 5 ≠ 0) (k : Fin 384) : (iblk m c 11 t : S1x1x384.Idx → EReal) (ix3 0 0 k) = (kNet m c).b1 (expertIdx t.val) k := by
  have e : (iblk m c 11 t : S1x1x384.Idx → EReal) (ix3 0 0 k) = V m c main_v9 (ix3 (expertIdx t.val) 0 k) := by
    unfold expertIdx
    blk_ext [iblk, idxB t]
  rw [e]
  rw [entry_v9]
  unfold kNet netOf pixRow pixCol
  pointwise

theorem blk12 (c : Dev nD) (t : Fin cfg0.N) (h : t.val % 5 ≠ 0) (n : Fin 768) (k : Fin 384) : (iblk m c 12 t : S1x768x384.Idx → EReal) (ix3 0 n k) = (kNet m c).e2 (expertIdx t.val) n k := by
  have e : (iblk m c 12 t : S1x768x384.Idx → EReal) (ix3 0 n k) = V m c main_arg12 (ix3 (expertIdx t.val) n k) := by
    unfold expertIdx
    blk_ext [iblk, idxB t]
  rw [e]
  rfl

theorem blk13 (c : Dev nD) (t : Fin cfg0.N) (h : t.val % 5 ≠ 0) (k : Fin 768) : (iblk m c 13 t : S1x1x768.Idx → EReal) (ix3 0 0 k) = (kNet m c).b2 (expertIdx t.val) k := by
  have e : (iblk m c 13 t : S1x1x768.Idx → EReal) (ix3 0 0 k) = V m c main_v10 (ix3 (expertIdx t.val) 0 k) := by
    unfold expertIdx
    blk_ext [iblk, idxB t]
  rw [e]
  rw [entry_v10]
  unfold kNet netOf pixRow pixCol
  pointwise

end Cert.KernelIdeal.Gen

end
-- ==== Proof.Pay.lean ====
module

public import proofs.«01_k».proof.Proof.Steps
public import proofs.«01_k».proof.Proof.Spec

@[expose] public section

set_option maxRecDepth 16384

noncomputable section

namespace Cert.KernelIdeal.Gen

open Idealize.ShloMosaic Idealize.ShloMosaic.TcCoe Idealize.ShloMosaic.Tactic
open Cert.Spec

/-! # What one grid point computes, read at an index -/

/-- A window of a matrix, read at an index. -/
theorem window_at {α : Type} {R C r c o p : ℕ} (x : (⟨2, ![R, C]⟩ : Shape).Idx → α) (inb : ∀ a, (![o, p] : Fin 2 → ℕ) a + (![r, c] : Fin 2 → ℕ) a ≤ (⟨2, ![R, C]⟩ : Shape).size a)
    (i : Fin r) (j : Fin c) (hi : o + i.val < R) (hj : p + j.val < C) :
    VecWindow.window x ![o, p] ![r, c] inb (ix2 i j) = x (ix2 ⟨o + i.val, hi⟩ ⟨p + j.val, hj⟩) := by
  refine congrArg x (funext fun a => ?_)
  match a with
  | 0 => exact Fin.ext (by show o + 1 * i.val = o + i.val; omega)
  | 1 => exact Fin.ext (by show p + 1 * j.val = p + j.val; omega)

section gates

variable (x0 x1 : FVec Ideal S1x1024x768 .f32) (x2 : FVec Ideal S768x1536 .f32) (x3 x4 : FVec Ideal S1x768 .f32) (x5 : FVec Ideal S768x4 .f32)

/-- The projected features of row `n`. -/
abbrev projRow (n : Fin 1024) : Fin 768 → EReal :=
  proj (fun k => x0 (ix3 0 n k)) (fun k => x1 (ix3 0 n k)) (fun o k => x2 (ix2 o k))

/-- The normalised features of row `n`. -/
abbrev featRow (n : Fin 1024) : Fin 768 → EReal := normed (projRow x0 x1 x2 n) (fun k => x3 (ix2 0 k)) (fun k => x4 (ix2 0 k))

/-- The logits of row `n`. -/
abbrev logitRow (n : Fin 1024) : Fin 4 → EReal := logit (featRow x0 x1 x2 x3 x4 n) (fun k e => x5 (ix2 k e))

theorem preFeat_at (n : Fin 1024) (o : Fin 768) : max (preFeat (F := Ideal) x0 x1 x2 (ix2 n o)) 0 = projRow x0 x1 x2 n o := by
  unfold preFeat projRow proj
  pointwise [k0_pay10, k0_pay7, k0_pay8]
  refine congrArg (fun z => max z 0) (congrArg₂ (· + ·) (Finset.sum_congr rfl fun k _ => congrArg _ ?_) (Finset.sum_congr rfl fun k _ => congrArg _ ?_))
  · refine (window_at (x2 : S768x1536.Idx → EReal) _ o k (by omega) (by omega)).trans (congrArg x2 ((ix2_inj ..).2 ⟨Fin.ext (Nat.zero_add _), Fin.ext (Nat.zero_add _)⟩))
  · refine (window_at (x2 : S768x1536.Idx → EReal) _ o k (by omega) (by omega)).trans (congrArg x2 ((ix2_inj ..).2 ⟨Fin.ext (Nat.zero_add _), rfl⟩))

theorem pay11_at (v : FVec Ideal S1024x768 .f32) (n : Fin 1024) (o : Fin 768) :
    k0_pay11 (F := Ideal) v (0 : EReal) x3 x4 (ix2 n o)
      = normed (fun k => max (v (ix2 n k)) 0) (fun k => x3 (ix2 0 k)) (fun k => x4 (ix2 0 k)) o := by
  unfold normed variance mean
  pointwise [k0_pay11]

theorem feat_at (n : Fin 1024) (o : Fin 768) : featOf (F := Ideal) x0 x1 x2 x3 x4 (ix2 n o) = featRow x0 x1 x2 x3 x4 n o := by
  unfold featOf
  pointwise [k0_pay12]
  rw [pay11_at]
  simp only [preFeat_at]

theorem pay13_at (n : Fin 1024) (e : Fin 4) :
    k0_pay13 (F := Ideal) (preFeat x0 x1 x2) (0 : EReal) x3 x4 x5 (ix2 n e) = logitRow x0 x1 x2 x3 x4 x5 n e := by
  unfold logitRow logit
  pointwise [k0_pay13]
  simp only [pay11_at, preFeat_at]

theorem pay14_at (n : Fin 1024) :
    k0_pay14 (F := Ideal) (preFeat x0 x1 x2) (0 : EReal) x3 x4 x5 (ix2 n 0) = top (logitRow x0 x1 x2 x3 x4 x5 n) := by
  unfold top
  pointwise [k0_pay14]
  simp only [pay13_at]

theorem pay15_at (n : Fin 1024) :
    k0_pay15 (F := Ideal) (preFeat x0 x1 x2) (0 : EReal) x3 x4 x5 (ix1 n) = place (logitRow x0 x1 x2 x3 x4 x5 n) := by
  unfold place
  pointwise [k0_pay15]
  simp only [pay14_at, pay13_at]

theorem gatesOf_at (n : Fin 1024) (e : Fin 4) :
    gatesOf (F := Ideal) x0 x1 x2 x3 x4 x5 (ix2 n e) = gate (logitRow x0 x1 x2 x3 x4 x5 n) e := by
  unfold gatesOf gate top place
  pointwise [k0_pay16]
  simp only [pay14_at, pay13_at, pay15_at]
  rfl

theorem gatesStored_at (n : Fin 1024) (e : Fin 4) :
    gatesStored (F := Ideal) x0 x1 x2 x3 x4 x5 (ix2 n e) = gate (logitRow x0 x1 x2 x3 x4 x5 n) e := by
  rw [← gatesOf_at]
  unfold gatesStored gatesOf
  pointwise [k0_pay17]

theorem impRow_at (r : FVec Ideal S1x4 .f32) (e : Fin 4) :
    impRow (F := Ideal) x0 x1 x2 x3 x4 x5 r (ix2 0 e) = (r (ix2 0 e) : EReal) + ∑ n, gate (logitRow x0 x1 x2 x3 x4 x5 n) e := by
  simp only [← gatesOf_at]
  unfold impRow gatesOf
  pointwise [k0_pay18]

theorem loadRow_at (g : FVec Ideal S1024x4 .f32) (r : FVec Ideal S1x4 .f32) (e : Fin 4) :
    k0_pay2 (F := Ideal) g r (ix2 0 e) = (r (ix2 0 e) : EReal) + ∑ n : Fin 1024, if 0 < (g (ix2 n e) : EReal) then (1 : EReal) else 0 := by
  pointwise [k0_pay2]
  refine congrArg _ (Finset.sum_congr rfl fun n _ => ?_)
  by_cases h : 0 < (g (ix2 n e) : EReal)
  · rw [if_pos h, decide_eq_true h]
    show (((BitVec.toInt (BitVec.setWidth 32 (BitVec.ofBool true)) : ℤ) : ℝ) : EReal) = 1
    rw [show BitVec.toInt (BitVec.setWidth 32 (BitVec.ofBool true)) = 1 from by decide, Int.cast_one, EReal.coe_one]
  · rw [if_neg h, decide_eq_false h]
    show (((BitVec.toInt (BitVec.setWidth 32 (BitVec.ofBool false)) : ℤ) : ℝ) : EReal) = 0
    rw [show BitVec.toInt (BitVec.setWidth 32 (BitVec.ofBool false)) = 0 from by decide, Int.cast_zero, EReal.coe_zero]

end gates

theorem fused_at (x0 x1 : FVec Ideal S1x1024x768 .f32) (x6 : FVec Ideal S48x768 .f32) (x7 : FVec Ideal S1x48 .f32) (x8 : FVec Ideal S768x48 .f32)
    (x9 : FVec Ideal S1x768 .f32) (n : Fin 1024) (c : Fin 768) :
    fusedOf (F := Ideal) x0 x1 x6 x7 x8 x9 (ix2 n c)
      = (x0 (ix3 0 n c) : EReal) * squash (fun j => Ideal.div (∑ n : Fin 1024, ((x0 (ix3 0 n j) : EReal) + x1 (ix3 0 n j))) pixels)
            (fun k j => x6 (ix2 k j)) (fun k => x7 (ix2 0 k)) (fun c k => x8 (ix2 c k)) (fun c => x9 (ix2 0 c)) c
        + (x1 (ix3 0 n c) : EReal) * (1 - squash (fun j => Ideal.div (∑ n : Fin 1024, ((x0 (ix3 0 n j) : EReal) + x1 (ix3 0 n j))) pixels)
            (fun k j => x6 (ix2 k j)) (fun k => x7 (ix2 0 k)) (fun c k => x8 (ix2 c k)) (fun c => x9 (ix2 0 c)) c) := by
  unfold fusedOf squash
  pointwise [k0_pay3, k0_pay7, k0_pay8, k0_pay9]
  simp only [Finset.sum_add_distrib, mul_thousandth]
  rfl

theorem expert_at (x10 : FVec Ideal S1x384x768 .f32) (x11 : FVec Ideal S1x1x384 .f32) (x12 : FVec Ideal S1x768x384 .f32) (x13 : FVec Ideal S1x1x768 .f32)
    (yb : FVec Ideal S1024x768 .bf16) (g : FVec Ideal S1024x4 .f32) (acc : FVec Ideal S1024x768 .f32) (e : Fin 4) (n : Fin 1024) (o : Fin 768) :
    expertAcc (F := Ideal) x10 x11 x12 x13 yb g acc e (ix2 n o)
      = (acc (ix2 n o) : EReal) + (g (ix2 n e) : EReal) * expert (fun k => yb (ix2 n k)) (fun h k => x10 (ix3 0 h k)) (fun h => x11 (ix3 0 0 h))
          (fun o h => x12 (ix3 0 o h)) (fun o => x13 (ix3 0 0 o)) o := by
  have hg : gateCol (F := Ideal) g e (ix2 n 0) = g (ix2 n e) := by
    have key : ∀ (p : ℕ) (inb) (hp : p + 0 < 4), VecWindow.window g ![0, p] S1024x1.size inb (ix2 n 0) = g (ix2 n ⟨p, hp⟩) := fun p inb hp =>
      (window_at (g : S1024x4.Idx → EReal) inb n 0 (by omega) hp).trans (congrArg g ((ix2_inj ..).2 ⟨Fin.ext (Nat.zero_add _), rfl⟩))
    match e with
    | 0 => exact key 0 _ (by decide)
    | 1 => exact key 1 _ (by decide)
    | 2 => exact key 2 _ (by decide)
    | 3 => exact key 3 _ (by decide)
  unfold expertAcc expert
  pointwise [k0_pay4, hg]

theorem aux_at (s : FVec Ideal S8x128 .f32) :
    auxOf (F := Ideal) s (ix2 0 0)
      = ((cv (fun e => statRow0 (F := Ideal) s (ix2 0 e)) + cv (fun e => statRow1 (F := Ideal) s (ix2 0 e))) * Ideal.ofBits .f32 0x3C23D70A#32 : EReal) := by
  unfold auxOf cv
  pointwise [k0_pay6]
  simp only [Finset.univ_unique, Finset.sum_singleton]

end Cert.KernelIdeal.Gen

end
-- ==== Proof.Carry.lean ====
module

public import proofs.«01_k».proof.Proof.Blocks
public import proofs.«01_k».proof.Proof.Pay

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)
open Cert.Spec

variable (m : (ℓ : Loc nD τ sig) → Buf (Elt Ideal) ℓ)

/-! # What the kernel keeps between points, as the layer's values -/

/-! ## The two rows of statistics -/

section stat

variable (x0 x1 : FVec Ideal S1x1024x768 .f32) (x2 : FVec Ideal S768x1536 .f32) (x3 x4 : FVec Ideal S1x768 .f32) (x5 : FVec Ideal S768x4 .f32)

theorem statRow0_stat (s : FVec Ideal S8x128 .f32) :
    statRow0 (F := Ideal) (statOf x0 x1 x2 x3 x4 x5 s) = impRow x0 x1 x2 x3 x4 x5 (statRow0 (F := Ideal) s) := by
  unfold statRow0 statOf
  rw [VecWindow.window_put_of_disjoint _ _ _ _ _ _ _ (0 : Fin 2) (Or.inl (by decide)), VecWindow.window_put_same]

theorem statRow1_stat (s : FVec Ideal S8x128 .f32) :
    statRow1 (F := Ideal) (statOf x0 x1 x2 x3 x4 x5 s) = k0_pay2 (gatesOf x0 x1 x2 x3 x4 x5) (statRow1 (F := Ideal) s) := by
  unfold statRow1 statOf
  rw [VecWindow.window_put_same]

theorem statRow0_zero (e : Fin 4) : statRow0 (F := Ideal) (k0_pay1 (F := Ideal)) (ix2 0 e) = (0 : EReal) := by
  unfold statRow0 VecWindow.window k0_pay1
  exact Ideal.ofBits_zero_f32

theorem statRow1_zero (e : Fin 4) : statRow1 (F := Ideal) (k0_pay1 (F := Ideal)) (ix2 0 e) = (0 : EReal) := by
  unfold statRow1 VecWindow.window k0_pay1
  exact Ideal.ofBits_zero_f32

end stat

/-! ## One point -/

variable (c : Dev nD) (t : Fin cfg0.N)

theorem featRow_blk (n : Fin 1024) :
    featRow (iblk m c 0 t) (iblk m c 1 t) (iblk m c 2 t) (iblk m c 3 t) (iblk m c 4 t) n = (kNet m c).feat (rowOf t) n := by
  unfold featRow projRow Net.feat
  have h0 := funext fun k => blk0 m c t n k
  have h1 := funext fun k => blk1 m c t n k
  have h2 := funext fun o => funext fun k => blk2 m c t o k
  have h3 := funext fun k => blk3 m c t k
  have h4 := funext fun k => blk4 m c t k
  exact congr (congr (congrArg normed (congr (congr (congrArg proj h0) h1) h2)) h3) h4

theorem logitRow_blk (n : Fin 1024) :
    logitRow (iblk m c 0 t) (iblk m c 1 t) (iblk m c 2 t) (iblk m c 3 t) (iblk m c 4 t) (iblk m c 5 t) n = (kNet m c).logits (rowOf t) n := by
  unfold logitRow Net.logits
  have h5 := funext fun k => funext fun e => blk5 m c t k e
  exact congr (congrArg logit (featRow_blk m c t n)) h5

theorem fused_of {x0 x1 : FVec Ideal S1x1024x768 .f32} {x6 : FVec Ideal S48x768 .f32} {x7 : FVec Ideal S1x48 .f32} {x8 : FVec Ideal S768x48 .f32}
    {x9 : FVec Ideal S1x768 .f32} (N : Net) (b : Fin 2) (h0 : ∀ n k, (x0 (ix3 0 n k) : EReal) = N.x b n k) (h1 : ∀ n k, (x1 (ix3 0 n k) : EReal) = N.t b n k)
    (h6 : ∀ h k, (x6 (ix2 h k) : EReal) = N.f1 h k) (h7 : ∀ h, (x7 (ix2 0 h) : EReal) = N.c1 h) (h8 : ∀ o h, (x8 (ix2 o h) : EReal) = N.f2 o h)
    (h9 : ∀ o, (x9 (ix2 0 o) : EReal) = N.c2 o) (n : Fin 1024) (o : Fin 768) : fusedOf (F := Ideal) x0 x1 x6 x7 x8 x9 (ix2 n o) = N.fused b n o := by
  rw [fused_at]
  simp only [h0, h1, h6, h7, h8, h9]
  rfl

theorem fused_blk (n : Fin 1024) (o : Fin 768) :
    fusedOf (F := Ideal) (iblk m c 0 t) (iblk m c 1 t) (iblk m c 6 t) (iblk m c 7 t) (iblk m c 8 t) (iblk m c 9 t) (ix2 n o) = (kNet m c).fused (rowOf t) n o :=
  fused_of (kNet m c) (rowOf t) (blk0 m c t) (blk1 m c t) (blk6 m c t) (blk7 m c t) (blk8 m c t) (blk9 m c t) n o

theorem expert_blk (h : t.val % 5 ≠ 0) (yb : Fin 768 → EReal) (o : Fin 768) :
    expert yb (fun h k => (iblk m c 10 t : S1x384x768.Idx → EReal) (ix3 0 h k)) (fun h => (iblk m c 11 t : S1x1x384.Idx → EReal) (ix3 0 0 h))
      (fun o h => (iblk m c 12 t : S1x768x384.Idx → EReal) (ix3 0 o h)) (fun o => (iblk m c 13 t : S1x1x768.Idx → EReal) (ix3 0 0 o)) o
      = expert yb ((kNet m c).e1 (expertIdx t.val)) ((kNet m c).b1 (expertIdx t.val)) ((kNet m c).e2 (expertIdx t.val)) ((kNet m c).b2 (expertIdx t.val)) o := by
  have h10 := funext fun k => funext fun j => blk10 m c t h k j
  have h11 := funext fun k => blk11 m c t h k
  have h12 := funext fun k => funext fun j => blk12 m c t h k j
  have h13 := funext fun k => blk13 m c t h k
  exact congrFun (congr (congr (congr (congrArg (expert yb) h10) h11) h12) h13) o

/-! ## All points -/

/-- The accumulator after phase `p`: the fused image and the first `p` experts, added in order. -/
def upTo (N : Net) (b : Fin 2) (n : Fin 1024) (o : Fin 768) : ℕ → EReal
  | 0 => N.fused b n o
  | p + 1 => upTo N b n o p + if h : p < 4 then N.part b n o ⟨p, h⟩ else 0

theorem upTo_four (N : Net) (b : Fin 2) (n : Fin 1024) (o : Fin 768) : upTo N b n o 4 = N.out b n o := by
  unfold Net.out
  rw [Fin.sum_univ_four]
  show N.fused b n o + N.part b n o 0 + N.part b n o 1 + N.part b n o 2 + N.part b n o 3 = _
  rw [add_assoc, add_assoc, add_assoc, add_comm (N.fused b n o), ← add_assoc, ← add_assoc]

/-- A statistic after batch row `b`. -/
def seen (v : Fin 2 → EReal) (b : Fin 2) : EReal := if b = 0 then v 0 else v 0 + v 1

/-- What the buffers hold after phase `p` of batch row `b`. -/
structure Held (N : Net) (b : Fin 2) (p : ℕ) (s : Carry Ideal) : Prop where
  feat : ∀ n o, (s.1 (ix2 n o) : EReal) = N.feat b n o
  gate : ∀ n e, (s.2.1 (ix2 n e) : EReal) = N.gates b n e
  acc : ∀ n o, (s.2.2.1 (ix2 n o) : EReal) = upTo N b n o p
  imp : ∀ e, (statRow0 (F := Ideal) s.2.2.2 (ix2 0 e) : EReal) = seen (fun b => N.imp b e) b
  load : ∀ e, (statRow1 (F := Ideal) s.2.2.2 (ix2 0 e) : EReal) = seen (fun b => N.load b e) b

/-- Phase 0, from the statistics it finds. -/
theorem held_gate (st : FVec Ideal S8x128 .f32)
    (h0 : ∀ e, (statRow0 (F := Ideal) st (ix2 0 e) : EReal) + (kNet m c).imp (rowOf t) e = seen (fun b => (kNet m c).imp b e) (rowOf t))
    (h1 : ∀ e, (statRow1 (F := Ideal) st (ix2 0 e) : EReal) + (kNet m c).load (rowOf t) e = seen (fun b => (kNet m c).load b e) (rowOf t)) :
    Held (kNet m c) (rowOf t) 0 (gateStep m c t st) where
  feat n o := (feat_at ..).trans (congrFun (featRow_blk m c t n) o)
  gate n e := (gatesStored_at ..).trans (congrFun (congrArg gate (logitRow_blk m c t n)) e)
  acc n o := fused_blk m c t n o
  imp e := by
    refine Eq.trans ?_ (h0 e)
    refine (congrFun (statRow0_stat ..) _).trans ((impRow_at ..).trans (congrArg _ (Finset.sum_congr rfl fun n _ => ?_)))
    exact congrFun (congrArg gate (logitRow_blk m c t n)) e
  load e := by
    refine Eq.trans ?_ (h1 e)
    refine (congrFun (statRow1_stat ..) _).trans ((loadRow_at ..).trans (congrArg _ (Finset.sum_congr rfl fun n _ => ?_)))
    exact congrArg (fun z : EReal => if 0 < z then (1 : EReal) else 0) ((gatesOf_at ..).trans (congrFun (congrArg gate (logitRow_blk m c t n)) e))

/-- A later phase, from the phase before. -/
theorem held_expert (h : t.val % 5 ≠ 0) (s : Carry Ideal) (hs : Held (kNet m c) (rowOf t) (t.val % 5 - 1) s) :
    Held (kNet m c) (rowOf t) (t.val % 5) (expertStep m c t (expertIdx t.val) s) where
  feat := hs.feat
  gate := hs.gate
  acc n o := by
    have hp : t.val % 5 = (t.val % 5 - 1) + 1 := by omega
    have hl : t.val % 5 - 1 < 4 := by omega
    rw [hp]
    refine (expert_at ..).trans ?_
    refine congrArg₂ (· + ·) (hs.acc n o) ?_
    rw [dif_pos hl]
    refine congrArg₂ (· * ·) (hs.gate n _) ?_
    refine (expert_blk m c t h _ o).trans ?_
    exact congrFun (congrFun (congrFun (congrFun (congrFun (congrArg expert (funext fun k => hs.feat n k)) _) _) _) _) o
  imp := hs.imp
  load := hs.load

theorem held_at : ∀ (n : ℕ) (hn : n < cfg0.N), Held (kNet m c) (rowOf ⟨n, hn⟩) (n % 5) (carryAt m c n hn)
  | 0, hn => by
    rw [carryAt_first m c ⟨0, hn⟩ rfl]
    have hr : rowOf ⟨0, hn⟩ = 0 := Fin.ext (by show 0 / 5 = 0; omega)
    show Held (kNet m c) (rowOf ⟨0, hn⟩) 0 _
    refine held_gate m c ⟨0, hn⟩ (k0_pay1 (F := Ideal)) (fun e => ?_) (fun e => ?_)
    · rw [hr]
      exact (congrArg (fun z : EReal => z + (kNet m c).imp 0 e) (statRow0_zero e)).trans (zero_add _)
    · rw [hr]
      exact (congrArg (fun z : EReal => z + (kNet m c).load 0 e) (statRow1_zero e)).trans (zero_add _)
  | n + 1, hn => by
    have ih := held_at n (Nat.lt_of_succ_lt hn)
    have hN : n + 1 < 10 := Nat.lt_of_lt_of_eq hn N_0
    by_cases h : (n + 1) % 5 = 0
    · rw [carryAt_gate m c ⟨n + 1, hn⟩ (Nat.succ_ne_zero n) h, h]
      have hr : rowOf ⟨n, Nat.lt_of_succ_lt hn⟩ = 0 := Fin.ext (by show n / 5 = 0; omega)
      have hr' : rowOf ⟨n + 1, hn⟩ = 1 := Fin.ext (by show (n + 1) / 5 = 1; omega)
      refine held_gate m c ⟨n + 1, hn⟩ _ (fun e => ?_) (fun e => ?_)
      · have := ih.imp e
        rw [hr] at this
        rw [hr']
        exact congrArg (· + _) this
      · have := ih.load e
        rw [hr] at this
        rw [hr']
        exact congrArg (· + _) this
    · rw [carryAt_expert m c ⟨n + 1, hn⟩ h]
      have hr : rowOf ⟨n, Nat.lt_of_succ_lt hn⟩ = rowOf ⟨n + 1, hn⟩ := Fin.ext (by show n / 5 = (n + 1) / 5; omega)
      have hp : n % 5 = (n + 1) % 5 - 1 := by omega
      rw [hr, hp] at ih
      exact held_expert m c ⟨n + 1, hn⟩ h _ ih

end Cert.KernelIdeal.Gen

end
-- ==== Proof.Result.lean ====
module

public import proofs.«01_k».proof.Proof.Carry

@[expose] public section

set_option maxRecDepth 16384

noncomputable section

namespace Cert.KernelIdeal.Gen

open Idealize.ShloMosaic Idealize.ShloMosaic.TcCoe Idealize.ShloMosaic.Tactic
open Idealize.SL.Sem
open Idealize.ShloMosaic.Pipeline (Dat Cfg Window)
open Cert.Spec

/-! # The kernel's two results -/

/-- The accumulator's copy in the output's block. -/
theorem pay5_at (v : FVec Ideal S1024x768 .f32) (n : Fin 1024) (o : Fin 768) : k0_pay5 (F := Ideal) v (ix3 0 n o) = v (ix2 n o) := by
  pointwise [k0_pay5]

/-- A flattened image read at its rows and columns, channels first. -/
theorem image_at (v : FVec Ideal S2x1024x768 .f32) (b : Fin 2) (c : Fin 768) (p q : Fin 32) :
    transpose S2x768x32x32 [0, 3, 1, 2] (shapeCast S2x32x32x768 v shapeCasts_S2x1024x768_S2x32x32x768) transposes_S2x32x32x768_S2x768x32x32_0_3_1_2 (ix4 b c p q)
      = v (ix3 b ⟨p.val * 32 + q.val, by omega⟩ c) := by
  pointwise

theorem scalar_at (v : FVec Ideal S1x1 .f32) : shapeCast S_ v shapeCasts_S1x1_S_ ix0 = v (ix2 0 0) := by
  pointwise

variable (m : (ℓ : Loc nD τ sig) → Buf (Elt Ideal) ℓ) (c : Dev nD)

theorem idxOut : ∀ t : Fin grid0.N, win0_14.index t 0 = t.val / 5 ∧ win0_14.index t 1 = 0 ∧ win0_14.index t 2 = 0 := by decide +kernel

theorem flush14 : ∀ t : Fin cfg0.N, (cfg0.win 14).flush t = true → t.val % 5 = 4 := by decide +kernel

/-- What the array behind the first result holds. -/
def outArr (i : S2x1024x768.Idx) : EReal := (kNet m c).out (i 0) (i 1) (i 2)

theorem outArr_at (i : S2x1024x768.Idx) (b : Fin 2) (n : Fin 1024) (o : Fin 768) (h0 : (i 0).val = b.val) (h1 : (i 1).val = n.val) (h2 : (i 2).val = o.val) :
    outArr m c i = (kNet m c).out b n o := by
  unfold outArr
  rw [show i 0 = b from Fin.ext h0, show i 1 = n from Fin.ext h1, show i 2 = o from Fin.ext h2]

theorem array_out : (dats m 0 c).arrAt 14 (cfgs 0).N = outArr m c := by
  refine (dats m 0 c).arrAt_eq_of_covers 14 (outArr m c) (by decide +kernel) fun t hf y => ?_
  have h4 := flush14 t hf
  have hh := (held_at m c t.val t.isLt).acc
  rw [h4] at hh
  blk_simp
  rw [after_14]
  obtain ⟨i0, i1, i2⟩ := idxOut t
  have hy : y = ix3 0 (y 1) (y 2) := funext fun a => by fin_cases a <;> [exact Fin.ext (by have := (y 0).isLt; show (y 0).val = 0; change (y 0).val < 1 at this; omega); rfl; rfl]
  refine Eq.trans ?_ (outArr_at m c _ (rowOf t) (y 1) (y 2) ?_ ?_ ?_).symm
  · rw [hy]
    refine (pay5_at _ _ _).trans ((hh _ _).trans (upTo_four ..))
  · blk_simp [i0]
    rfl
  · blk_simp [i1]
  · blk_simp [i2]

/-- What the array behind the second result holds. -/
def auxArr (_ : S1x1.Idx) : EReal := (kNet m c).aux

theorem array_aux : (dats m 0 c).arrAt 15 (cfgs 0).N = auxArr m c := by
  have hN : cfg0.N = 10 := N_0
  obtain ⟨t, ht⟩ : ∃ t : Fin cfg0.N, t.val = 9 := ⟨⟨9, by omega⟩, rfl⟩
  refine (dats m 0 c).arrAt_eq_of_after_last 15 t (by revert ht; revert t; decide +kernel) _ fun j => ?_
  blk_simp
  rw [after_15]
  have hh := held_at m c t.val t.isLt
  have hr : rowOf ⟨t.val, t.isLt⟩ = 1 := Fin.ext (by show t.val / 5 = 1; omega)
  rw [hr] at hh
  have hj : ∀ j : S1x1.Idx, j = ix2 0 0 := fun j => funext fun a => by fin_cases a <;> exact Subsingleton.elim (α := Fin 1) _ _
  refine (congrArg (auxOf (F := Ideal) (carryAt m c t.val t.isLt).2.2.2) (hj _)).trans ((aux_at _).trans ?_)
  unfold auxArr Net.aux
  have h0 : (fun e => (statRow0 (F := Ideal) (carryAt m c t.val t.isLt).2.2.2 (ix2 0 e) : EReal)) = fun e => (kNet m c).imp 0 e + (kNet m c).imp 1 e := funext hh.imp
  have h1 : (fun e => (statRow1 (F := Ideal) (carryAt m c t.val t.isLt).2.2.2 (ix2 0 e) : EReal)) = fun e => (kNet m c).load 0 e + (kNet m c).load 1 e := funext hh.load
  exact congrArg₂ (fun u v : Fin 4 → EReal => (cv u + cv v) * Ideal.ofBits .f32 0x3C23D70A#32) h0 h1

theorem tail_out (b : Fin 2) (o : Fin 768) (p q : Fin 32) :
    (Pipeline.afterTail₀ cfgs (dats m) 0 (V0 m) [hostOps1] c main_v13 : S2x768x32x32.Idx → EReal) (ix4 b o p q) = (kNet m c).out b ⟨p.val * 32 + q.val, by omega⟩ o := by
  have h : (Pipeline.afterTail₀ cfgs (dats m) 0 (V0 m) [hostOps1] c main_v13 : FVec Ideal S2x768x32x32 .f32)
      = transpose S2x768x32x32 [0, 3, 1, 2] (shapeCast S2x32x32x768 (outArr m c : FVec Ideal S2x1024x768 .f32) shapeCasts_S2x1024x768_S2x32x32x768) transposes_S2x32x32x768_S2x768x32x32_0_3_1_2 := by
    have hw : Pipeline.withArrays spec0 c (V0 m c) (fun w => (dats m 0 c).arrAt w (cfgs 0).N) (Proc.devRef .tc main_v11_0) = outArr m c :=
      (Pipeline.withArrays_arr spec0 launch0.win.arr_inj c (V0 m c) _ 14).trans (array_out m c)
    rw [← hw]
    unfold Pipeline.afterTail₀
    simp only [hostOps1, List.flatten_cons, List.flatten_nil, List.append_nil, List.cons_append, List.nil_append]
    entry_read
    rfl
  exact (congrFun h _).trans (image_at _ b o p q)

theorem tail_aux : (Pipeline.afterTail₀ cfgs (dats m) 0 (V0 m) [hostOps1] c main_v14 : S_.Idx → EReal) ix0 = (kNet m c).aux := by
  have h : (Pipeline.afterTail₀ cfgs (dats m) 0 (V0 m) [hostOps1] c main_v14 : FVec Ideal S_ .f32)
      = shapeCast S_ (auxArr m c : FVec Ideal S1x1 .f32) shapeCasts_S1x1_S_ := by
    have hw : Pipeline.withArrays spec0 c (V0 m c) (fun w => (dats m 0 c).arrAt w (cfgs 0).N) (Proc.devRef .tc main_v11_1) = auxArr m c :=
      (Pipeline.withArrays_arr spec0 launch0.win.arr_inj c (V0 m c) _ 15).trans (array_aux m c)
    rw [← hw]
    unfold Pipeline.afterTail₀
    simp only [hostOps1, List.flatten_cons, List.flatten_nil, List.append_nil, List.cons_append, List.nil_append]
    entry_read
    rfl
  exact (congrFun h _).trans (scalar_at _)

end Cert.KernelIdeal.Gen

end
-- ==== Proof.Finite.lean ====
module

public import proofs.«01_k».proof.Defs
public import proofs.«01_k».proof.Proof.Blocks

@[expose] public section

set_option maxRecDepth 16384

noncomputable section

namespace Cert.KernelIdeal.Gen

open Idealize.ShloMosaic Idealize.ShloMosaic.TcCoe Idealize.ShloMosaic.Tactic
open Cert.Spec

/-! # What the precondition says of the layer -/

instance preFacts : Cert.Pre_finite_gating.Facts where
  bcast_S_S768 := by decide
  bcast_S_S3x768x4 := by decide

/-- A number whose size is below infinity is finite. -/
theorem fine_of_abs_lt {x : EReal} (h : Ideal.cmp .olt (max x (-x)) (Ideal.ofBits .f32 0x7F800000#32) = 1#1) : Fine x := by
  have htop : Ideal.ofBits .f32 0x7F800000#32 = ⊤ := by simp [Ideal.ofBits, Ideal.ieee]
  rw [htop] at h
  refine fine_of_ne (fun hb => ?_) (fun ht => ?_)
  · rw [hb] at h
    simp [Ideal.cmp] at h
  · rw [ht] at h
    simp [Ideal.cmp] at h

/-- So is every element of an array that passes the test. -/
theorem fine_of_test {S : Shape} (v : FVec Ideal S .f32) (hb : Cert.Pre_finite_gating.S_.BroadcastsInDim S (![] : Fin 0 → Fin S.rank))
    (h : cmpf .olt (Host.absf v) (broadcastInDim S ![] hb (constant Cert.Pre_finite_gating.S_ .f32 0x7F800000#32)) = fun _ => 1#1) (i : S.Idx) :
    Fine (v i : EReal) :=
  fine_of_abs_lt (congrFun h i)

variable (m : (ℓ : Loc nD τ sig) → Buf (Elt Ideal) ℓ)

theorem kNet_finite (h : Cert.Pre_KernelIdeal_finite_gating m) (c : Dev nD) : (kNet m c).Finite := by
  obtain ⟨h3, h4, h9⟩ := h c
  exact ⟨fun k => fine_of_test _ _ h3 _, fun k => fine_of_test _ _ h4 _, fun k e => fine_of_test _ _ h9 _⟩

end Cert.KernelIdeal.Gen

end
-- ==== Proof.Agree.lean ====
module

public import proofs.«01_k».proof.Proof.RefOut
public import proofs.«01_k».proof.Proof.Result
public import proofs.«01_k».proof.Proof.Finite
public import Idealize.ShloMosaic.Lib.Claim

@[expose] public section

set_option maxRecDepth 16384

noncomputable section

namespace Cert.Agree

open Idealize.ShloMosaic Idealize.ShloMosaic.TcCoe Idealize.ShloMosaic.Tactic
open Idealize.SL.Sem
open Cert.Spec

/-! # Kernel and reference compute the same layer -/

/-- The first result of a layer, as an image. -/
def outOf (N : Net) (i : (⟨4, ![2, 768, 32, 32]⟩ : Shape).Idx) : EReal := N.out (i 0) ⟨(i 2).val * 32 + (i 3).val, by
  have h2 : (i 2).val < 32 := (i 2).isLt
  have h3 : (i 3).val < 32 := (i 3).isLt
  omega⟩ (i 1)

/-- The second result of a layer. -/
def auxOfNet (N : Net) (_ : (⟨0, ![]⟩ : Shape).Idx) : EReal := N.aux

theorem four_coords (i : (⟨4, ![2, 768, 32, 32]⟩ : Shape).Idx) : i = ix4 (i 0) (i 1) (i 2) (i 3) := funext fun a => by fin_cases a <;> rfl

theorem no_coords (i : (⟨0, ![]⟩ : Shape).Idx) : i = ix0 := funext fun a => a.elim0

theorem eq_outOf {N : Net} {v : (⟨4, ![2, 768, 32, 32]⟩ : Shape).Idx → EReal}
    (h : ∀ (b : Fin 2) (o : Fin 768) (p q : Fin 32), v (ix4 b o p q) = N.out b ⟨p.val * 32 + q.val, by omega⟩ o) : v = outOf N :=
  funext fun i => (congrArg v (four_coords i)).trans (h (i 0) (i 1) (i 2) (i 3))

theorem eq_auxOfNet {N : Net} {v : (⟨0, ![]⟩ : Shape).Idx → EReal} (h : v ix0 = N.aux) : v = auxOfNet N :=
  funext fun i => (congrArg v (no_coords i)).trans h

/-- Equal arrays give equal layers. -/
theorem netOf_congr {a0 a0' a1 a1' : (⟨4, ![2, 768, 32, 32]⟩ : Shape).Idx → EReal} {a2 a2' : (⟨2, ![768, 1536]⟩ : Shape).Idx → EReal}
    {a3 a3' a4 a4' : (⟨1, ![768]⟩ : Shape).Idx → EReal} {a5 a5' : (⟨2, ![48, 768]⟩ : Shape).Idx → EReal} {a6 a6' : (⟨1, ![48]⟩ : Shape).Idx → EReal}
    {a7 a7' : (⟨2, ![768, 48]⟩ : Shape).Idx → EReal} {a8 a8' : (⟨1, ![768]⟩ : Shape).Idx → EReal} {a9 a9' : (⟨3, ![3, 768, 4]⟩ : Shape).Idx → EReal}
    {a10 a10' : (⟨3, ![4, 384, 768]⟩ : Shape).Idx → EReal} {a11 a11' : (⟨2, ![4, 384]⟩ : Shape).Idx → EReal}
    {a12 a12' : (⟨3, ![4, 768, 384]⟩ : Shape).Idx → EReal} {a13 a13' : (⟨2, ![4, 768]⟩ : Shape).Idx → EReal}
    {k k' : (⟨0, ![]⟩ : Shape).Idx → BitVec 32}
    (h0 : a0 = a0') (h1 : a1 = a1') (h2 : a2 = a2') (h3 : a3 = a3') (h4 : a4 = a4') (h5 : a5 = a5') (h6 : a6 = a6') (h7 : a7 = a7')
    (h8 : a8 = a8') (h9 : a9 = a9') (h10 : a10 = a10') (h11 : a11 = a11') (h12 : a12 = a12') (h13 : a13 = a13') (hk : k = k') :
    netOf a0 a1 a2 a3 a4 a5 a6 a7 a8 a9 a10 a11 a12 a13 k = netOf a0' a1' a2' a3' a4' a5' a6' a7' a8' a9' a10' a11' a12' a13' k' := by
  subst h0 h1 h2 h3 h4 h5 h6 h7 h8 h9 h10 h11 h12 h13 hk
  rfl

theorem algebraic : Cert.algebraic_KernelIdeal_ReferenceIdeal_pre_finite_gating
    (hKernelIdeal := Cert.KernelIdeal.Gen.facts) (hReferenceIdeal := Cert.ReferenceIdeal.Gen.facts) (hPre_finite_gating := Cert.KernelIdeal.Gen.preFacts) := by
  intro m g m' g' hpre hag
  refine ⟨fun c => outOf (Cert.KernelIdeal.Gen.kNet m c), fun c => auxOfNet (Cert.KernelIdeal.Gen.kNet m c), ?_, ?_⟩
  · refine (θ_run Cert.KernelIdeal.defs _ _).mono (fun r h c => ?_)
      (θ_run_and (Cert.KernelIdeal.Gen.run_main (F := Ideal) m g) (Cert.KernelIdeal.Gen.frame (F := Ideal) m g))
    refine ⟨?_, ?_, h.2.1 c⟩
    · exact ((h.1 c).2 Cert.KernelIdeal.main_v13 (Pipeline.mem_restRefs_of Cert.KernelIdeal.main_v13 (by decide) (by decide))).trans
        (eq_outOf (Cert.KernelIdeal.Gen.tail_out m c))
    · exact ((h.1 c).2 Cert.KernelIdeal.main_v14 (Pipeline.mem_restRefs_of Cert.KernelIdeal.main_v14 (by decide) (by decide))).trans
        (eq_auxOfNet (Cert.KernelIdeal.Gen.tail_aux m c))
  · refine (θ_run Cert.ReferenceIdeal.defs _ _).mono (fun r h c => ?_) (Cert.ReferenceIdeal.Value.run (F := Ideal) m' g')
    have hN : Cert.ReferenceIdeal.Value.rNet (StableHlo.launchContents m' c) = Cert.KernelIdeal.Gen.kNet m c := by
      obtain ⟨h0, h1, h2, h3, h4, h5, h6, h7, h8, h9, h10, h11, h12, h13, h14⟩ := hag c
      exact netOf_congr h0 h1 h2 h3 h4 h5 h6 h7 h8 h9 h10 h11 h12 h13 h14
    have hf : ∀ b n e, Fine ((Cert.ReferenceIdeal.Value.rNet (StableHlo.launchContents m' c)).logits b n e) := by
      rw [hN]
      exact (Cert.KernelIdeal.Gen.kNet_finite m hpre c).logits
    refine ⟨?_, ?_, (h c).2.2⟩
    · exact ((h c).1.trans (Cert.ReferenceIdeal.Value.val3_main_v133 (F := Ideal) (StableHlo.launchContents m' c)).symm).trans
        ((eq_outOf (Cert.ReferenceIdeal.Value.out_at (StableHlo.launchContents m' c) hf)).trans (congrArg outOf hN))
    · exact ((h c).2.1.trans (Cert.ReferenceIdeal.Value.val3_main_v115 (F := Ideal) (StableHlo.launchContents m' c)).symm).trans
        ((eq_auxOfNet (Cert.ReferenceIdeal.Value.aux_at (StableHlo.launchContents m' c) hf)).trans (congrArg auxOfNet hN))

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launched
public import proofs.«01_k».proof.Proof.Same
public import proofs.«01_k».proof.Proof.Agree
public import Idealize.ShloMosaic.Adequacy
public import Idealize.ShloMosaic.Init

@[expose] public section

noncomputable section

namespace Cert.Proof

open Idealize.ShloMosaic Idealize.SL.Sem

/-- The idealized kernel's frame: the run of `Launched.lean` at the extended reals. -/
theorem frame_ideal : Cert.quiescent_KernelIdeal := fun m ρ _ => Cert.KernelIdeal.Gen.frame (F := Ideal) m ρ

/-- The reference's frame: host operations only, none of which writes an argument; it declares no semaphore. -/
theorem frame_reference : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.KernelIdeal.Gen.preFacts,
    Cert.Same.frame_kernel, frame_ideal, fun m ρ _ => frame_ideal m ρ trivial, frame_reference,
    fun m ρ _ => frame_reference m ρ trivial, trivial, Cert.Agree.algebraic⟩

end Cert.Proof

end
